-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "inv_n" .f32 0x394CCCCD#32 ((1 / 5120 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v19)) (v3 : (c : Dev Cert.KernelIdeal.nD) → Buf (Elt Ideal) ((c.tc : Thread Cert.KernelIdeal.nD Cert.KernelIdeal.τ).loc Cert.KernelIdeal.main_v20)) (v4 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_v20) = v3 c
          ∧ r.2.mem ((c.tc : Thread Cert.KernelIdeal.nD Cert.KernelIdeal.τ).loc Cert.KernelIdeal.main_v21) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_v100) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_v40) = v3 c
          ∧ r.2.mem ((c.tc : Thread Cert.ReferenceIdeal.nD Cert.ReferenceIdeal.τ).loc Cert.ReferenceIdeal.main_v32) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x8192x5120 : Shape := ⟨3, ![2, 8192, 5120]⟩
abbrev S5120 : Shape := ⟨1, ![5120]⟩
abbrev S5120x3840 : Shape := ⟨2, ![5120, 3840]⟩
abbrev S3840 : Shape := ⟨1, ![3840]⟩
abbrev S2x8192 : Shape := ⟨2, ![2, 8192]⟩
abbrev S64 : Shape := ⟨1, ![64]⟩
abbrev S_ : Shape := ⟨0, ![]⟩
abbrev S64x1 : Shape := ⟨2, ![64, 1]⟩
abbrev S64x256 : Shape := ⟨2, ![64, 256]⟩
abbrev S16384x5120 : Shape := ⟨2, ![16384, 5120]⟩
abbrev S1x5120 : Shape := ⟨2, ![1, 5120]⟩
abbrev S1x3840 : Shape := ⟨2, ![1, 3840]⟩
abbrev S64x1x256 : Shape := ⟨3, ![64, 1, 256]⟩
abbrev S2x10x8192x128 : Shape := ⟨4, ![2, 10, 8192, 128]⟩
abbrev S256x5120 : Shape := ⟨2, ![256, 5120]⟩
abbrev S1x1x256 : Shape := ⟨3, ![1, 1, 256]⟩
abbrev S1x10x256x128 : Shape := ⟨4, ![1, 10, 256, 128]⟩
abbrev S2x256x5120 : Shape := ⟨3, ![2, 256, 5120]⟩
abbrev S2x256x128 : Shape := ⟨3, ![2, 256, 128]⟩
abbrev S1x256 : Shape := ⟨2, ![1, 256]⟩
abbrev S128x256 : Shape := ⟨2, ![128, 256]⟩
abbrev S256x128 : Shape := ⟨2, ![256, 128]⟩
abbrev S1x256x128 : Shape := ⟨3, ![1, 256, 128]⟩
abbrev S128x128 : Shape := ⟨2, ![128, 128]⟩
abbrev S8x128 : Shape := ⟨2, ![8, 128]⟩
abbrev S1x128 : Shape := ⟨2, ![1, 128]⟩
abbrev S128 : Shape := ⟨1, ![128]⟩
abbrev S128x1 : Shape := ⟨2, ![128, 1]⟩
abbrev S1x1x128 : Shape := ⟨3, ![1, 1, 128]⟩
abbrev S128x1280 : Shape := ⟨2, ![128, 1280]⟩
abbrev S1x256x5120 : Shape := ⟨3, ![1, 256, 5120]⟩
abbrev S1x128x1280 : Shape := ⟨3, ![1, 128, 1280]⟩
abbrev S5120x256 : Shape := ⟨2, ![5120, 256]⟩
abbrev S256x256 : Shape := ⟨2, ![256, 256]⟩
abbrev S1x1x256x128 : Shape := ⟨4, ![1, 1, 256, 128]⟩
abbrev S2x8192x10x128 : Shape := ⟨4, ![2, 8192, 10, 128]⟩
abbrev S2x8192x1 : Shape := ⟨3, ![2, 8192, 1]⟩

abbrev nBuf : Space → Nat
  | .hbm => 35
  | .vmem => 23
  | .smem => 0
  | _ => 0

abbrev bufTy : (tb : Table) → Fin (tcTables nBuf tb) → BufTy
  | .hbm, ⟨0, _⟩ => ⟨S2x8192x5120, .bf16⟩
  | .hbm, ⟨1, _⟩ => ⟨S5120, .f32⟩
  | .hbm, ⟨2, _⟩ => ⟨S5120x3840, .fp8e4m3⟩
  | .hbm, ⟨3, _⟩ => ⟨S3840, .f32⟩
  | .hbm, ⟨4, _⟩ => ⟨S2x8192, .i32⟩
  | .hbm, ⟨5, _⟩ => ⟨S64, .f32⟩
  | .hbm, ⟨6, _⟩ => ⟨S_, .f32⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S64, .f32⟩
  | .hbm, ⟨16, _⟩ => ⟨S_, .f32⟩
  | .hbm, ⟨17, _⟩ => ⟨S64, .f32⟩
  | .hbm, ⟨18, _⟩ => ⟨S64, .f32⟩
  | .hbm, ⟨19, _⟩ => ⟨S64x1, .f32⟩
  | .hbm, ⟨20, _⟩ => ⟨S64x256, .f32⟩
  | .hbm, ⟨21, _⟩ => ⟨S16384x5120, .bf16⟩
  | .hbm, ⟨22, _⟩ => ⟨S1x5120, .f32⟩
  | .hbm, ⟨23, _⟩ => ⟨S1x3840, .f32⟩
  | .hbm, ⟨24, _⟩ => ⟨S64x1x256, .i32⟩
  | .hbm, ⟨25, _⟩ => ⟨S2x10x8192x128, .bf16⟩
  | .hbm, ⟨26, _⟩ => ⟨S2x10x8192x128, .bf16⟩
  | .hbm, ⟨27, _⟩ => ⟨S2x10x8192x128, .bf16⟩
  | .hbm, ⟨28, _⟩ => ⟨S16384x5120, .fp8e4m3⟩
  | .hbm, ⟨29, _⟩ => ⟨S64x1x256, .f32⟩
  | .hbm, ⟨30, _⟩ => ⟨S2x8192x10x128, .bf16⟩
  | .hbm, ⟨31, _⟩ => ⟨S2x8192x10x128, .bf16⟩
  | .hbm, ⟨32, _⟩ => ⟨S2x8192x10x128, .bf16⟩
  | .hbm, ⟨33, _⟩ => ⟨S2x8192x5120, .fp8e4m3⟩
  | .hbm, ⟨34, _⟩ => ⟨S2x8192x1, .f32⟩
  | .local _ .vmem, ⟨0, _⟩ => ⟨S256x5120, .bf16⟩
  | .local _ .vmem, ⟨1, _⟩ => ⟨S256x5120, .bf16⟩
  | .local _ .vmem, ⟨2, _⟩ => ⟨S1x5120, .f32⟩
  | .local _ .vmem, ⟨3, _⟩ => ⟨S5120x3840, .fp8e4m3⟩
  | .local _ .vmem, ⟨4, _⟩ => ⟨S1x3840, .f32⟩
  | .local _ .vmem, ⟨5, _⟩ => ⟨S1x1x256, .i32⟩
  | .local _ .vmem, ⟨6, _⟩ => ⟨S1x1x256, .i32⟩
  | .local _ .vmem, ⟨7, _⟩ => ⟨S64x256, .f32⟩
  | .local _ .vmem, ⟨8, _⟩ => ⟨S1x10x256x128, .bf16⟩
  | .local _ .vmem, ⟨9, _⟩ => ⟨S1x10x256x128, .bf16⟩
  | .local _ .vmem, ⟨10, _⟩ => ⟨S1x10x256x128, .bf16⟩
  | .local _ .vmem, ⟨11, _⟩ => ⟨S1x10x256x128, .bf16⟩
  | .local _ .vmem, ⟨12, _⟩ => ⟨S1x10x256x128, .bf16⟩
  | .local _ .vmem, ⟨13, _⟩ => ⟨S1x10x256x128, .bf16⟩
  | .local _ .vmem, ⟨14, _⟩ => ⟨S256x5120, .fp8e4m3⟩
  | .local _ .vmem, ⟨15, _⟩ => ⟨S256x5120, .fp8e4m3⟩
  | .local _ .vmem, ⟨16, _⟩ => ⟨S1x1x256, .f32⟩
  | .local _ .vmem, ⟨17, _⟩ => ⟨S1x1x256, .f32⟩
  | .local _ .vmem, ⟨18, _⟩ => ⟨S256x5120, .f32⟩
  | .local _ .vmem, ⟨19, _⟩ => ⟨S2x256x5120, .fp8e4m3⟩
  | .local _ .vmem, ⟨20, _⟩ => ⟨S2x256x128, .f32⟩
  | .local _ .vmem, ⟨21, _⟩ => ⟨S2x256x128, .f32⟩
  | .local _ .vmem, ⟨22, _⟩ => ⟨S2x256x128, .f32⟩
  | _, _ => ⟨S2x8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev main_v16_3 : Ref sig .tc := ⟨.hbm, 28, rfl⟩
abbrev main_v16_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_scratch4 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![65], ![false]⟩

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c64_i32 : BitVec 32 := 64#32
  let v4 : BitVec 1 := Scalar.cmpi .slt arg0 c64_i32
  let v5 : BitVec 1 := Scalar.andi v3 v4
  let c2_i32 : BitVec 32 := 2#32
  let v6 : BitVec 32 := Scalar.remsi arg0 c2_i32
  let c0_i32_2 : BitVec 32 := 0#32
  let v7 : BitVec 1 := Scalar.cmpi .eq v6 c0_i32_2
  let v8 : BitVec 1 := Scalar.andi v5 v7
  let v9 : BitVec 32 := Scalar.extui v8
  let c0_i32_3 : BitVec 32 := 0#32
  let v10 : BitVec 1 := Scalar.cmpi .ne v9 c0_i32_3
  v10

def k0_cond3 (i : grid0.Coords) : BitVec 1 :=
  let arg0 : BitVec 32 := BitVec.ofNat 32 (i 0).val
  let c0_i32_4 : BitVec 32 := 0#32
  let v11 : BitVec 1 := Scalar.cmpi .sgt arg0 c0_i32_4
  let c64_i32_5 : BitVec 32 := 64#32
  let v12 : BitVec 1 := Scalar.cmpi .slt arg0 c64_i32_5
  let v13 : BitVec 1 := Scalar.andi v11 v12
  let c2_i32_6 : BitVec 32 := 2#32
  let v14 : BitVec 32 := Scalar.remsi arg0 c2_i32_6
  let c1_i32 : BitVec 32 := 1#32
  let v15 : BitVec 1 := Scalar.cmpi .eq v14 c1_i32
  let v16 : BitVec 1 := Scalar.andi v13 v15
  let v17 : BitVec 32 := Scalar.extui v16
  let c0_i32_7 : BitVec 32 := 0#32
  let v18 : BitVec 1 := Scalar.cmpi .ne v17 c0_i32_7
  v18

def k0_cond4 (i : grid0.Coords) : BitVec 1 :=
  let arg0 : BitVec 32 := BitVec.ofNat 32 (i 0).val
  let c64_i32_8 : BitVec 32 := 64#32
  let v19 : BitVec 1 := Scalar.cmpi .eq arg0 c64_i32_8
  let v20 : BitVec 32 := Scalar.extui v19
  let c0_i32_9 : BitVec 32 := 0#32
  let v21 : BitVec 1 := Scalar.cmpi .ne v20 c0_i32_9
  v21

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c32_i32_8 : BitVec 32 := 32#32
  let c0_i32_9 : BitVec 32 := 0#32
  let v21 : BitVec 1 := Scalar.cmpi .eq c32_i32_8 c0_i32_9
  let c1_i32_10 : BitVec 32 := 1#32
  let v22 : BitVec 32 := Scalar.select v21 c1_i32_10 c32_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, c0_i32_14.toNat, v30.toNat, c0_i32_15.toNat]

def cc0_transform_7 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c32_i32_8 : BitVec 32 := 32#32
  let c0_i32_9 : BitVec 32 := 0#32
  let v21 : BitVec 1 := Scalar.cmpi .eq c32_i32_8 c0_i32_9
  let c1_i32_10 : BitVec 32 := 1#32
  let v22 : BitVec 32 := Scalar.select v21 c1_i32_10 c32_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, c0_i32_14.toNat, v30.toNat, c0_i32_15.toNat]

def cc0_transform_8 (i : grid0.Coords) : Fin 4 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c32_i32 : BitVec 32 := 32#32
  let v2 : BitVec 32 := Scalar.divsi v1 c32_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c32_i32 c0_i32_2
  let v9 : BitVec 32 := Scalar.extui v8
  let c0_i32_3 : BitVec 32 := 0#32
  let v10 : BitVec 1 := Scalar.cmpi .slt c32_i32 c0_i32_3
  let v11 : BitVec 32 := Scalar.extui v10
  let v12 : BitVec 32 := Scalar.subi v9 v11
  let v13 : BitVec 1 := Scalar.cmpi .ne v7 v12
  let v14 : BitVec 32 := Scalar.remsi v1 c32_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg0 c1_i32_6
  let c0_i32_7 : BitVec 32 := 0#32
  let v20 : BitVec 32 := Scalar.maxsi v19 c0_i32_7
  let c32_i32_8 : BitVec 32 := 32#32
  let c0_i32_9 : BitVec 32 := 0#32
  let v21 : BitVec 1 := Scalar.cmpi .eq c32_i32_8 c0_i32_9
  let c1_i32_10 : BitVec 32 := 1#32
  let v22 : BitVec 32 := Scalar.select v21 c1_i32_10 c32_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  let c0_i32_16 : BitVec 32 := 0#32
  ![v18.toNat, c0_i32_14.toNat, v30.toNat, c0_i32_15.toNat]

def cc0_transform_9 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_10 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

abbrev stage0_0 : Fin 2 → Memref sig .tc .vmem S256x5120 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x5120 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5120x3840 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x3840 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1x256 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S64x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x10x256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x10x256x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x10x256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x5120 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "inv_n" => some ((1 / 5120 : ℝ) : EReal)
  | _ => none
-- ==== ReferenceIdeal.lean ====
abbrev S2x8192x5120 : Shape := ⟨3, ![2, 8192, 5120]⟩
abbrev S5120 : Shape := ⟨1, ![5120]⟩
abbrev S5120x3840 : Shape := ⟨2, ![5120, 3840]⟩
abbrev S3840 : Shape := ⟨1, ![3840]⟩
abbrev S2x8192 : Shape := ⟨2, ![2, 8192]⟩
abbrev S_ : Shape := ⟨0, ![]⟩
abbrev S2x8192x1 : Shape := ⟨3, ![2, 8192, 1]⟩
abbrev S1x1x5120 : Shape := ⟨3, ![1, 1, 5120]⟩
abbrev S16384x5120 : Shape := ⟨2, ![16384, 5120]⟩
abbrev S16384x3840 : Shape := ⟨2, ![16384, 3840]⟩
abbrev S2x8192x3840 : Shape := ⟨3, ![2, 8192, 3840]⟩
abbrev S1x1x3840 : Shape := ⟨3, ![1, 1, 3840]⟩
abbrev S2x8192x1280 : Shape := ⟨3, ![2, 8192, 1280]⟩
abbrev S2x8192x10x128 : Shape := ⟨4, ![2, 8192, 10, 128]⟩
abbrev S64 : Shape := ⟨1, ![64]⟩
abbrev S1x1x64 : Shape := ⟨3, ![1, 1, 64]⟩
abbrev S2x8192x64 : Shape := ⟨3, ![2, 8192, 64]⟩
abbrev S2x8192x1x64 : Shape := ⟨4, ![2, 8192, 1, 64]⟩
abbrev S2x8192x10x64 : Shape := ⟨4, ![2, 8192, 10, 64]⟩

abbrev nBuf : Space → Nat
  | .hbm => 131
  | .vmem => 4
  | .smem => 0
  | _ => 0

abbrev hbmTy0_0 (i : Nat) : BufTy := match i % 128 with
  | 0 => ⟨S2x8192x5120, .bf16⟩
  | 1 => ⟨S5120, .f32⟩
  | 2 => ⟨S5120x3840, .fp8e4m3⟩
  | 3 => ⟨S3840, .f32⟩
  | 4 => ⟨S2x8192, .i32⟩
  | 5 => ⟨S2x8192x5120, .f32⟩
  | 6 => ⟨S2x8192x5120, .f32⟩
  | 7 => ⟨S_, .f32⟩
  | 8 => ⟨S2x8192, .f32⟩
  | 9 => ⟨S2x8192x1, .f32⟩
  | 10 => ⟨S_, .f32⟩
  | 11 => ⟨S2x8192x1, .f32⟩
  | 12 => ⟨S2x8192x1, .f32⟩
  | 13 => ⟨S_, .f32⟩
  | 14 => ⟨S2x8192x1, .f32⟩
  | 15 => ⟨S2x8192x1, .f32⟩
  | 16 => ⟨S2x8192x1, .f32⟩
  | 17 => ⟨S2x8192x5120, .f32⟩
  | 18 => ⟨S2x8192x5120, .f32⟩
  | 19 => ⟨S1x1x5120, .f32⟩
  | 20 => ⟨S2x8192x5120, .f32⟩
  | 21 => ⟨S2x8192x5120, .f32⟩
  | 22 => ⟨S2x8192x5120, .f32⟩
  | 23 => ⟨S_, .f32⟩
  | 24 => ⟨S2x8192, .f32⟩
  | 25 => ⟨S2x8192x1, .f32⟩
  | 26 => ⟨S_, .f32⟩
  | 27 => ⟨S2x8192x1, .f32⟩
  | 28 => ⟨S2x8192x1, .f32⟩
  | 29 => ⟨S_, .f32⟩
  | 30 => ⟨S2x8192x1, .f32⟩
  | 31 => ⟨S2x8192x1, .f32⟩
  | 32 => ⟨S2x8192x1, .f32⟩
  | 33 => ⟨S2x8192x1, .f32⟩
  | 34 => ⟨S2x8192x1, .f32⟩
  | 35 => ⟨S_, .f32⟩
  | 36 => ⟨S2x8192x1, .f32⟩
  | 37 => ⟨S2x8192x1, .f32⟩
  | 38 => ⟨S_, .f32⟩
  | 39 => ⟨S2x8192x1, .f32⟩
  | 40 => ⟨S2x8192x1, .i1⟩
  | 41 => ⟨S_, .f32⟩
  | 42 => ⟨S2x8192x1, .f32⟩
  | 43 => ⟨S2x8192x1, .i1⟩
  | 44 => ⟨S2x8192x1, .i1⟩
  | 45 => ⟨S_, .f32⟩
  | 46 => ⟨S_, .f32⟩
  | 47 => ⟨S2x8192x1, .f32⟩
  | 48 => ⟨S2x8192x1, .f32⟩
  | 49 => ⟨S2x8192x1, .f32⟩
  | 50 => ⟨S2x8192x1, .f32⟩
  | 51 => ⟨S2x8192x1, .f32⟩
  | 52 => ⟨S2x8192x5120, .f32⟩
  | 53 => ⟨S2x8192x5120, .f32⟩
  | 54 => ⟨S_, .f32⟩
  | 55 => ⟨S_, .f32⟩
  | 56 => ⟨S_, .f32⟩
  | 57 => ⟨S2x8192x5120, .f32⟩
  | 58 => ⟨S2x8192x5120, .f32⟩
  | 59 => ⟨S_, .f32⟩
  | 60 => ⟨S2x8192x5120, .f32⟩
  | 61 => ⟨S2x8192x5120, .f32⟩
  | 62 => ⟨S16384x5120, .f32⟩
  | 63 => ⟨S16384x5120, .fp8e4m3⟩
  | 64 => ⟨S16384x3840, .f32⟩
  | 65 => ⟨S2x8192x5120, .fp8e4m3⟩
  | 66 => ⟨S2x8192x3840, .f32⟩
  | 67 => ⟨S2x8192x3840, .f32⟩
  | 68 => ⟨S2x8192x3840, .f32⟩
  | 69 => ⟨S1x1x3840, .f32⟩
  | 70 => ⟨S2x8192x3840, .f32⟩
  | 71 => ⟨S2x8192x3840, .f32⟩
  | 72 => ⟨S2x8192x1280, .f32⟩
  | 73 => ⟨S2x8192x10x128, .f32⟩
  | 74 => ⟨S2x8192x1280, .f32⟩
  | 75 => ⟨S2x8192x10x128, .f32⟩
  | 76 => ⟨S2x8192x1280, .f32⟩
  | 77 => ⟨S2x8192x10x128, .f32⟩
  | 78 => ⟨S64, .f32⟩
  | 79 => ⟨S_, .f32⟩
  | 80 => ⟨S64, .f32⟩
  | 81 => ⟨S64, .f32⟩
  | 82 => ⟨S_, .f32⟩
  | 83 => ⟨S64, .f32⟩
  | 84 => ⟨S64, .f32⟩
  | 85 => ⟨S_, .f32⟩
  | 86 => ⟨S64, .f32⟩
  | 87 => ⟨S64, .f32⟩
  | 88 => ⟨S64, .f32⟩
  | 89 => ⟨S_, .f32⟩
  | 90 => ⟨S64, .f32⟩
  | 91 => ⟨S64, .f32⟩
  | 92 => ⟨S2x8192, .f32⟩
  | 93 => ⟨S2x8192x1, .f32⟩
  | 94 => ⟨S1x1x64, .f32⟩
  | 95 => ⟨S2x8192x64, .f32⟩
  | 96 => ⟨S2x8192x64, .f32⟩
  | 97 => ⟨S2x8192x64, .f32⟩
  | 98 => ⟨S2x8192x64, .f32⟩
  | 99 => ⟨S2x8192x1x64, .f32⟩
  | 100 => ⟨S2x8192x64, .f32⟩
  | 101 => ⟨S2x8192x1x64, .f32⟩
  | 102 => ⟨S2x8192x10x64, .f32⟩
  | 103 => ⟨S2x8192x10x64, .f32⟩
  | 104 => ⟨S2x8192x10x64, .f32⟩
  | 105 => ⟨S2x8192x10x64, .f32⟩
  | 106 => ⟨S2x8192x10x64, .f32⟩
  | 107 => ⟨S2x8192x10x64, .f32⟩
  | 108 => ⟨S2x8192x10x64, .f32⟩
  | 109 => ⟨S2x8192x10x64, .f32⟩
  | 110 => ⟨S2x8192x10x64, .f32⟩
  | 111 => ⟨S2x8192x10x64, .f32⟩
  | 112 => ⟨S2x8192x10x64, .f32⟩
  | 113 => ⟨S2x8192x10x64, .f32⟩
  | 114 => ⟨S2x8192x10x128, .f32⟩
  | 115 => ⟨S2x8192x10x128, .bf16⟩
  | 116 => ⟨S2x8192x10x64, .f32⟩
  | 117 => ⟨S2x8192x10x64, .f32⟩
  | 118 => ⟨S2x8192x10x64, .f32⟩
  | 119 => ⟨S2x8192x10x64, .f32⟩
  | 120 => ⟨S2x8192x10x64, .f32⟩
  | 121 => ⟨S2x8192x10x64, .f32⟩
  | 122 => ⟨S2x8192x10x64, .f32⟩
  | 123 => ⟨S2x8192x10x64, .f32⟩
  | 124 => ⟨S2x8192x10x64, .f32⟩
  | 125 => ⟨S2x8192x10x64, .f32⟩
  | 126 => ⟨S2x8192x10x64, .f32⟩
  | 127 => ⟨S2x8192x10x64, .f32⟩
  | _ => ⟨S2x8192x5120, .bf16⟩

abbrev hbmTy0_1 (i : Nat) : BufTy := match i % 128 with
  | 0 => ⟨S2x8192x10x128, .f32⟩
  | 1 => ⟨S2x8192x10x128, .bf16⟩
  | 2 => ⟨S2x8192x10x128, .bf16⟩
  | _ => ⟨S2x8192x5120, .bf16⟩

abbrev hbmTy (i : Nat) : BufTy := match i / 128 with
  | 0 => hbmTy0_0 i
  | 1 => hbmTy0_1 i
  | _ => ⟨S2x8192x5120, .bf16⟩

abbrev bufTy : (tb : Table) → Fin (tcTables nBuf tb) → BufTy
  | .hbm, ⟨i, _⟩ => hbmTy i
  | .local _ .vmem, ⟨0, _⟩ => ⟨S16384x5120, .f32⟩
  | .local _ .vmem, ⟨1, _⟩ => ⟨S5120x3840, .fp8e4m3⟩
  | .local _ .vmem, ⟨2, _⟩ => ⟨S16384x5120, .fp8e4m3⟩
  | .local _ .vmem, ⟨3, _⟩ => ⟨S16384x3840, .f32⟩
  | _, _ => ⟨S2x8192x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_call0_v0 : Ref sig .tc := ⟨.hbm, 46, rfl⟩
abbrev main_call0_v1 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_cst_10 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_v37 : Ref sig .tc := ⟨.hbm, 61, rfl⟩
abbrev main_v38 : Ref sig .tc := ⟨.hbm, 62, rfl⟩
abbrev main_v39_0 : Ref sig .tc := ⟨.hbm, 63, rfl⟩
abbrev main_v39_1 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_cst_11 : Ref sig .tc := ⟨.hbm, 79, rfl⟩
abbrev main_v54 : Ref sig .tc := ⟨.hbm, 80, rfl⟩
abbrev main_v55 : Ref sig .tc := ⟨.hbm, 81, rfl⟩
abbrev main_cst_12 : Ref sig .tc := ⟨.hbm, 82, rfl⟩
abbrev main_v56 : Ref sig .tc := ⟨.hbm, 83, rfl⟩
abbrev main_v57 : Ref sig .tc := ⟨.hbm, 84, rfl⟩
abbrev main_cst_13 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_cst_14 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S16384x5120 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5120x3840 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16384x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x3840 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Kernel.Runs.lean ====
/- What the runs of the kernel body share: the arrays when the grid starts, each window's block at a point,
   the four branch conditions decided from the point number, and the names of the staging buffers and scratch. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v17, main_v18, main_v19, main_v20, main_v21}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      (Pipeline.RDat.FramePostR.arr_in h c 2 rfl).trans ((hA c 2).trans (V_main_arg2 m c)),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 65 = 0 :=
  (fun t => by
    have ht : t.val < 65 := Nat.lt_of_lt_of_eq t.isLt N_0
    have e0 : (grid0.coords t 0).val = t.val / 1 % 65 := Pipeline.Grid.coords_val t 0 (by decide) rfl
    simp only [cond0_0, k0_cond1, e0]
    word_cmp
   : ∀ t : Fin grid0.N, cond0_0 (grid0.coords t) ↔ t.val % 65 = 0)

/-- The condition of the body's `scf.if` 1 (`k0_h2`), from the grid coordinates (the skeleton's scalar
    chain substituted). -/
abbrev cond0_1 (i : grid0.Coords) : Prop := k0_cond2 i = 1#1
/-- It holds at points 2, 4, 6, 8, 10, 12, 14, 16, 18, 20, 22, 24, 26, 28, 30, 32, 34, 36, 38, 40, 42, 44, 46, 48, 50, 52, 54, 56, 58, 60 and 62 only — decided over the grid. -/
theorem hcond0_1 : ∀ t : Fin cfg0.N, cond0_1 (grid0.coords t) ↔ (t.val % 65 = 2 ∨ t.val % 65 = 4 ∨ t.val % 65 = 6 ∨ t.val % 65 = 8 ∨ t.val % 65 = 10 ∨ t.val % 65 = 12 ∨ t.val % 65 = 14 ∨ t.val % 65 = 16 ∨ t.val % 65 = 18 ∨ t.val % 65 = 20 ∨ t.val % 65 = 22 ∨ t.val % 65 = 24 ∨ t.val % 65 = 26 ∨ t.val % 65 = 28 ∨ t.val % 65 = 30 ∨ t.val % 65 = 32 ∨ t.val % 65 = 34 ∨ t.val % 65 = 36 ∨ t.val % 65 = 38 ∨ t.val % 65 = 40 ∨ t.val % 65 = 42 ∨ t.val % 65 = 44 ∨ t.val % 65 = 46 ∨ t.val % 65 = 48 ∨ t.val % 65 = 50 ∨ t.val % 65 = 52 ∨ t.val % 65 = 54 ∨ t.val % 65 = 56 ∨ t.val % 65 = 58 ∨ t.val % 65 = 60 ∨ t.val % 65 = 62) :=
  (by decide +kernel : ∀ t : Fin grid0.N, cond0_1 (grid0.coords t) ↔ (t.val % 65 = 2 ∨ t.val % 65 = 4 ∨ t.val % 65 = 6 ∨ t.val % 65 = 8 ∨ t.val % 65 = 10 ∨ t.val % 65 = 12 ∨ t.val % 65 = 14 ∨ t.val % 65 = 16 ∨ t.val % 65 = 18 ∨ t.val % 65 = 20 ∨ t.val % 65 = 22 ∨ t.val % 65 = 24 ∨ t.val % 65 = 26 ∨ t.val % 65 = 28 ∨ t.val % 65 = 30 ∨ t.val % 65 = 32 ∨ t.val % 65 = 34 ∨ t.val % 65 = 36 ∨ t.val % 65 = 38 ∨ t.val % 65 = 40 ∨ t.val % 65 = 42 ∨ t.val % 65 = 44 ∨ t.val % 65 = 46 ∨ t.val % 65 = 48 ∨ t.val % 65 = 50 ∨ t.val % 65 = 52 ∨ t.val % 65 = 54 ∨ t.val % 65 = 56 ∨ t.val % 65 = 58 ∨ t.val % 65 = 60 ∨ t.val % 65 = 62))

/-- The condition of the body's `scf.if` 2 (`k0_h3`), from the grid coordinates (the skeleton's scalar
    chain substituted). -/
abbrev cond0_2 (i : grid0.Coords) : Prop := k0_cond3 i = 1#1
/-- It holds at the points ≡ 1 (mod 2) — decided over the grid. -/
theorem hcond0_2 : ∀ t : Fin cfg0.N, cond0_2 (grid0.coords t) ↔ t.val % 2 = 1 :=
  (by decide +kernel : ∀ t : Fin grid0.N, cond0_2 (grid0.coords t) ↔ t.val % 2 = 1)

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 65 = 64 :=
  (fun t => by
    have ht : t.val < 65 := Nat.lt_of_lt_of_eq t.isLt N_0
    have e0 : (grid0.coords t 0).val = t.val / 1 % 65 := Pipeline.Grid.coords_val t 0 (by decide) rfl
    simp only [cond0_3, k0_cond4, e0]
    word_cmp
   : ∀ t : Fin grid0.N, cond0_3 (grid0.coords t) ↔ t.val % 65 = 64)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x5120 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5120x3840 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3840 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x10x256x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x10x256x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x10x256x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x5120 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x256 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S256x5120 .f32 := Memref.whole cc0_scratch0
abbrev scM0_1 : Memref sig .tc .vmem S2x256x5120 .fp8e4m3 := Memref.whole cc0_scratch1
abbrev scM0_2 : Memref sig .tc .vmem S2x256x128 .f32 := Memref.whole cc0_scratch2
abbrev scM0_3 : Memref sig .tc .vmem S2x256x128 .f32 := Memref.whole cc0_scratch3
abbrev scM0_4 : Memref sig .tc .vmem S2x256x128 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Gen

end
-- ==== Proof.Kernel.RunA.lean ====
/- The body's run at the first point: it quantises tile 0 and projects nothing. -/
module

public import proofs.«01_k».proof.Proof.Kernel.Runs

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2492000 in set_option sl_exec.squeezeSlice true in
/-- The body's triple IN CASE A (`scf.if` 0 taken, `scf.if` 1 not taken, `scf.if` 2 not taken, `scf.if` 3 not taken: points 0): on whole staging memrefs — the inputs' at their contents,
    the FORGOTTEN outputs' (6, 7, 8, 9, 10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S5120x3840 .fp8e4m3) (harg3 : arg3.IsWhole) (arg4 : Memref sig .tc .vmem S1x3840 .f32) (harg4 : arg4.IsWhole) (arg5 : Memref sig .tc .vmem S1x1x256 .i32) (harg5 : arg5.IsWhole) (arg6 : Memref sig .tc .vmem S64x256 .f32) (harg6 : arg6.IsWhole) (arg7 : Memref sig .tc .vmem S1x10x256x128 .bf16) (harg7 : arg7.IsWhole) (arg8 : Memref sig .tc .vmem S1x10x256x128 .bf16) (harg8 : arg8.IsWhole) (arg9 : Memref sig .tc .vmem S1x10x256x128 .bf16) (harg9 : arg9.IsWhole) (arg10 : Memref sig .tc .vmem S256x5120 .fp8e4m3) (harg10 : arg10.IsWhole) (arg11 : Memref sig .tc .vmem S1x1x256 .f32) (harg11 : arg11.IsWhole) (arg12 : Memref sig .tc .vmem S256x5120 .f32) (harg12 : arg12.IsWhole) (arg13 : Memref sig .tc .vmem S2x256x5120 .fp8e4m3) (harg13 : arg13.IsWhole) (arg14 : Memref sig .tc .vmem S2x256x128 .f32) (harg14 : arg14.IsWhole) (arg15 : Memref sig .tc .vmem S2x256x128 .f32) (harg15 : arg15.IsWhole) (arg16 : Memref sig .tc .vmem S2x256x128 .f32) (harg16 : arg16.IsWhole) (hc0 : cond0_0 i) (hc1 : ¬cond0_1 i) (hc2 : ¬cond0_2 i) (hc3 : ¬cond0_3 i)
    (x0 : Vec F S256x5120 .bf16) (x1 : Vec F S1x5120 .f32) (x2 : Vec F S5120x3840 .fp8e4m3) (x3 : Vec F S1x3840 .f32) (x4 : Vec F S1x1x256 .i32) (x5 : Vec F S64x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_rmsnorm_fp8_qkv_rope_eq_skeleton]; unfold cc0_rmsnorm_fp8_qkv_rope_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.Kernel.RunB.lean ====
/- The body's run at an even point between: it projects the tile before and quantises the next into slot 0. -/
module

public import proofs.«01_k».proof.Proof.Kernel.RunA

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3512000 in set_option sl_exec.squeezeSlice true in
/-- The body's triple IN CASE B (`scf.if` 0 not taken, `scf.if` 1 not taken, `scf.if` 2 taken, `scf.if` 3 not taken: points 1, 3, … 63: 32 of 65): on whole staging memrefs — the inputs' at their contents,
    the FORGOTTEN outputs' (6, 7, 8, 9, 10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S5120x3840 .fp8e4m3) (harg3 : arg3.IsWhole) (arg4 : Memref sig .tc .vmem S1x3840 .f32) (harg4 : arg4.IsWhole) (arg5 : Memref sig .tc .vmem S1x1x256 .i32) (harg5 : arg5.IsWhole) (arg6 : Memref sig .tc .vmem S64x256 .f32) (harg6 : arg6.IsWhole) (arg7 : Memref sig .tc .vmem S1x10x256x128 .bf16) (harg7 : arg7.IsWhole) (arg8 : Memref sig .tc .vmem S1x10x256x128 .bf16) (harg8 : arg8.IsWhole) (arg9 : Memref sig .tc .vmem S1x10x256x128 .bf16) (harg9 : arg9.IsWhole) (arg10 : Memref sig .tc .vmem S256x5120 .fp8e4m3) (harg10 : arg10.IsWhole) (arg11 : Memref sig .tc .vmem S1x1x256 .f32) (harg11 : arg11.IsWhole) (arg12 : Memref sig .tc .vmem S256x5120 .f32) (harg12 : arg12.IsWhole) (arg13 : Memref sig .tc .vmem S2x256x5120 .fp8e4m3) (harg13 : arg13.IsWhole) (arg14 : Memref sig .tc .vmem S2x256x128 .f32) (harg14 : arg14.IsWhole) (arg15 : Memref sig .tc .vmem S2x256x128 .f32) (harg15 : arg15.IsWhole) (arg16 : Memref sig .tc .vmem S2x256x128 .f32) (harg16 : arg16.IsWhole) (hc0 : ¬cond0_0 i) (hc1 : ¬cond0_1 i) (hc2 : cond0_2 i) (hc3 : ¬cond0_3 i)
    (x0 : Vec F S256x5120 .bf16) (x1 : Vec F S1x5120 .f32) (x2 : Vec F S5120x3840 .fp8e4m3) (x3 : Vec F S1x3840 .f32) (x4 : Vec F S1x1x256 .i32) (x5 : Vec F S64x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_rmsnorm_fp8_qkv_rope_eq_skeleton]; unfold cc0_rmsnorm_fp8_qkv_rope_skel
    simp only [k0_part182_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.Kernel.RunC.lean ====
/- The body's run at an odd point between: it projects the tile before and quantises the next into slot 1. -/
module

public import proofs.«01_k».proof.Proof.Kernel.RunB

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3512000 in set_option sl_exec.squeezeSlice true in
/-- The body's triple IN CASE C (`scf.if` 0 not taken, `scf.if` 1 taken, `scf.if` 2 not taken, `scf.if` 3 not taken: points 2, 4, … 62: 31 of 65): on whole staging memrefs — the inputs' at their contents,
    the FORGOTTEN outputs' (6, 7, 8, 9, 10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S5120x3840 .fp8e4m3) (harg3 : arg3.IsWhole) (arg4 : Memref sig .tc .vmem S1x3840 .f32) (harg4 : arg4.IsWhole) (arg5 : Memref sig .tc .vmem S1x1x256 .i32) (harg5 : arg5.IsWhole) (arg6 : Memref sig .tc .vmem S64x256 .f32) (harg6 : arg6.IsWhole) (arg7 : Memref sig .tc .vmem S1x10x256x128 .bf16) (harg7 : arg7.IsWhole) (arg8 : Memref sig .tc .vmem S1x10x256x128 .bf16) (harg8 : arg8.IsWhole) (arg9 : Memref sig .tc .vmem S1x10x256x128 .bf16) (harg9 : arg9.IsWhole) (arg10 : Memref sig .tc .vmem S256x5120 .fp8e4m3) (harg10 : arg10.IsWhole) (arg11 : Memref sig .tc .vmem S1x1x256 .f32) (harg11 : arg11.IsWhole) (arg12 : Memref sig .tc .vmem S256x5120 .f32) (harg12 : arg12.IsWhole) (arg13 : Memref sig .tc .vmem S2x256x5120 .fp8e4m3) (harg13 : arg13.IsWhole) (arg14 : Memref sig .tc .vmem S2x256x128 .f32) (harg14 : arg14.IsWhole) (arg15 : Memref sig .tc .vmem S2x256x128 .f32) (harg15 : arg15.IsWhole) (arg16 : Memref sig .tc .vmem S2x256x128 .f32) (harg16 : arg16.IsWhole) (hc0 : ¬cond0_0 i) (hc1 : cond0_1 i) (hc2 : ¬cond0_2 i) (hc3 : ¬cond0_3 i)
    (x0 : Vec F S256x5120 .bf16) (x1 : Vec F S1x5120 .f32) (x2 : Vec F S5120x3840 .fp8e4m3) (x3 : Vec F S1x3840 .f32) (x4 : Vec F S1x1x256 .i32) (x5 : Vec F S64x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_rmsnorm_fp8_qkv_rope_eq_skeleton]; unfold cc0_rmsnorm_fp8_qkv_rope_skel
    simp only [k0_part115_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.Kernel.RunD.lean ====
/- The body's run at the last point: it projects the last tile and quantises nothing. -/
module

public import proofs.«01_k».proof.Proof.Kernel.RunC

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1152000 in
/-- The body's triple IN CASE D (`scf.if` 0 not taken, `scf.if` 1 not taken, `scf.if` 2 not taken, `scf.if` 3 taken: points 64): on whole staging memrefs — the inputs' at their contents,
    the FORGOTTEN outputs' (6, 7, 8, 9, 10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_D (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S5120x3840 .fp8e4m3) (harg3 : arg3.IsWhole) (arg4 : Memref sig .tc .vmem S1x3840 .f32) (harg4 : arg4.IsWhole) (arg5 : Memref sig .tc .vmem S1x1x256 .i32) (harg5 : arg5.IsWhole) (arg6 : Memref sig .tc .vmem S64x256 .f32) (harg6 : arg6.IsWhole) (arg7 : Memref sig .tc .vmem S1x10x256x128 .bf16) (harg7 : arg7.IsWhole) (arg8 : Memref sig .tc .vmem S1x10x256x128 .bf16) (harg8 : arg8.IsWhole) (arg9 : Memref sig .tc .vmem S1x10x256x128 .bf16) (harg9 : arg9.IsWhole) (arg10 : Memref sig .tc .vmem S256x5120 .fp8e4m3) (harg10 : arg10.IsWhole) (arg11 : Memref sig .tc .vmem S1x1x256 .f32) (harg11 : arg11.IsWhole) (arg12 : Memref sig .tc .vmem S256x5120 .f32) (harg12 : arg12.IsWhole) (arg13 : Memref sig .tc .vmem S2x256x5120 .fp8e4m3) (harg13 : arg13.IsWhole) (arg14 : Memref sig .tc .vmem S2x256x128 .f32) (harg14 : arg14.IsWhole) (arg15 : Memref sig .tc .vmem S2x256x128 .f32) (harg15 : arg15.IsWhole) (arg16 : Memref sig .tc .vmem S2x256x128 .f32) (harg16 : arg16.IsWhole) (hc0 : ¬cond0_0 i) (hc1 : ¬cond0_1 i) (hc2 : ¬cond0_2 i) (hc3 : cond0_3 i)
    (x0 : Vec F S256x5120 .bf16) (x1 : Vec F S1x5120 .f32) (x2 : Vec F S5120x3840 .fp8e4m3) (x3 : Vec F S1x3840 .f32) (x4 : Vec F S1x1x256 .i32) (x5 : Vec F S64x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_rmsnorm_fp8_qkv_rope_eq_skeleton]; unfold cc0_rmsnorm_fp8_qkv_rope_skel
    rw [k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.Kernel.Gen

end
-- ==== Proof.Kernel.Frame.lean ====
/- The frame of the program: at every grid point the body runs and hands its buffers back, so the program
   terminates, leaves its arguments as they were and every counter at zero. Nothing is named of the results here. -/
module

public import proofs.«01_k».proof.Proof.Kernel.RunD
public import Idealize.ShloMosaic.Lib.Claim

@[expose] public section

-- membership in a rectangle of production extents (`View.cover_of_tiled`): the elaborator's structural look
-- recurses once per coordinate of the long axes
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6, 7, 8, 9, 10): nothing reads what the kernel leaves in them, so nothing
    of it is named (Lib/Pipeline/Dat.lean `Dat.toRForget`). -/
def forgets0 : Fin 11 → Bool := fun w => w.val == 6 || w.val == 7 || w.val == 8 || w.val == 9 || w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 6400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 65 := lt_of_lt_of_eq t.isLt (show cfg0.N = 65 from N_0)
  by_cases h0 : t.val % 65 = 0
  · by_cases h1 : (t.val % 65 = 2 ∨ t.val % 65 = 4 ∨ t.val % 65 = 6 ∨ t.val % 65 = 8 ∨ t.val % 65 = 10 ∨ t.val % 65 = 12 ∨ t.val % 65 = 14 ∨ t.val % 65 = 16 ∨ t.val % 65 = 18 ∨ t.val % 65 = 20 ∨ t.val % 65 = 22 ∨ t.val % 65 = 24 ∨ t.val % 65 = 26 ∨ t.val % 65 = 28 ∨ t.val % 65 = 30 ∨ t.val % 65 = 32 ∨ t.val % 65 = 34 ∨ t.val % 65 = 36 ∨ t.val % 65 = 38 ∨ t.val % 65 = 40 ∨ t.val % 65 = 42 ∨ t.val % 65 = 44 ∨ t.val % 65 = 46 ∨ t.val % 65 = 48 ∨ t.val % 65 = 50 ∨ t.val % 65 = 52 ∨ t.val % 65 = 54 ∨ t.val % 65 = 56 ∨ t.val % 65 = 58 ∨ t.val % 65 = 60 ∨ t.val % 65 = 62)
    · exfalso; omega
    · by_cases h2 : t.val % 2 = 1
      · exfalso; omega
      · by_cases h3 : t.val % 65 = 64
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_A c (grid0.coords t) _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [H9]; · iexists _; iexact H9
          isplitl [H10]; · iexists _; iexact H10
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, H8, H9, H10, HS0, HS1, HS2, HS3, HS4⟩
          isplitl [HS0 HS1 HS2 HS3 HS4 Hg]
          · isplitl [HS0 HS1 HS2 HS3 HS4]
            · isplitl [HS0]
              · iexact HS0
              isplitl [HS1]
              · iexact HS1
              isplitl [HS2]
              · iexact HS2
              isplitl [HS3]
              · iexact HS3
              iexact HS4
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexact H10
  · by_cases h1 : (t.val % 65 = 2 ∨ t.val % 65 = 4 ∨ t.val % 65 = 6 ∨ t.val % 65 = 8 ∨ t.val % 65 = 10 ∨ t.val % 65 = 12 ∨ t.val % 65 = 14 ∨ t.val % 65 = 16 ∨ t.val % 65 = 18 ∨ t.val % 65 = 20 ∨ t.val % 65 = 22 ∨ t.val % 65 = 24 ∨ t.val % 65 = 26 ∨ t.val % 65 = 28 ∨ t.val % 65 = 30 ∨ t.val % 65 = 32 ∨ t.val % 65 = 34 ∨ t.val % 65 = 36 ∨ t.val % 65 = 38 ∨ t.val % 65 = 40 ∨ t.val % 65 = 42 ∨ t.val % 65 = 44 ∨ t.val % 65 = 46 ∨ t.val % 65 = 48 ∨ t.val % 65 = 50 ∨ t.val % 65 = 52 ∨ t.val % 65 = 54 ∨ t.val % 65 = 56 ∨ t.val % 65 = 58 ∨ t.val % 65 = 60 ∨ t.val % 65 = 62)
    · by_cases h2 : t.val % 2 = 1
      · exfalso; omega
      · by_cases h3 : t.val % 65 = 64
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_C c (grid0.coords t) _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [H9]; · iexists _; iexact H9
          isplitl [H10]; · iexists _; iexact H10
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, H8, H9, H10, HS0, HS1, HS2, HS3, HS4⟩
          isplitl [HS0 HS1 HS2 HS3 HS4 Hg]
          · isplitl [HS0 HS1 HS2 HS3 HS4]
            · isplitl [HS0]
              · iexact HS0
              isplitl [HS1]
              · iexact HS1
              isplitl [HS2]
              · iexact HS2
              isplitl [HS3]
              · iexact HS3
              iexact HS4
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexact H10
    · by_cases h2 : t.val % 2 = 1
      · by_cases h3 : t.val % 65 = 64
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_B c (grid0.coords t) _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [H9]; · iexists _; iexact H9
          isplitl [H10]; · iexists _; iexact H10
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, H8, H9, H10, HS0, HS1, HS2, HS3, HS4⟩
          isplitl [HS0 HS1 HS2 HS3 HS4 Hg]
          · isplitl [HS0 HS1 HS2 HS3 HS4]
            · isplitl [HS0]
              · iexact HS0
              isplitl [HS1]
              · iexact HS1
              isplitl [HS2]
              · iexact HS2
              isplitl [HS3]
              · iexact HS3
              iexact HS4
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexact H10
      · by_cases h3 : t.val % 65 = 64
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_D c (grid0.coords t) _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [H9]; · iexists _; iexact H9
          isplitl [H10]; · iexists _; iexact H10
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, H8, H9, H10, HS0, HS1, HS2, HS3, HS4⟩
          isplitl [HS0 HS1 HS2 HS3 HS4 Hg]
          · isplitl [HS0 HS1 HS2 HS3 HS4]
            · isplitl [HS0]
              · iexact HS0
              isplitl [HS1]
              · iexact HS1
              isplitl [HS2]
              · iexact HS2
              isplitl [HS3]
              · iexact HS3
              iexact HS4
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexact H10
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7, 8, 9, 10) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.Kernel.Gen

end
-- ==== Proof.KernelIdeal.Runs.lean ====
/- What the runs of the kernel body share: the arrays when the grid starts, each window's block at a point,
   the four branch conditions decided from the point number, and the names of the staging buffers and scratch. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The lines after the region touch the pipeline's arrays and the bypassing buffers only (each operation's buffers are
    unscoped TensorCore references, and with nothing prefetched every such reference is one or the other:
    `Pipeline.tailRefs_none`). -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v17, main_v18, main_v19, main_v20, main_v21}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-- No host operation after the region writes `main_arg0`: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c
/-- No host operation after the region writes `main_arg1`: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c
/-- No host operation after the region writes `main_arg3`: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c
/-- No host operation after the region writes `main_arg4`: it ends as launched. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg4 (by exact (by decide : ∀ w, Pipeline.arrRef spec0 w ≠ main_arg4))]
  exact V_main_arg4 m c
/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_KernelIdeal`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      (Pipeline.RDat.FramePostR.arr_in h c 2 rfl).trans ((hA c 2).trans (V_main_arg2 m c)),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c)⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 65 = 0 :=
  (fun t => by
    have ht : t.val < 65 := Nat.lt_of_lt_of_eq t.isLt N_0
    have e0 : (grid0.coords t 0).val = t.val / 1 % 65 := Pipeline.Grid.coords_val t 0 (by decide) rfl
    simp only [cond0_0, k0_cond1, e0]
    word_cmp
   : ∀ t : Fin grid0.N, cond0_0 (grid0.coords t) ↔ t.val % 65 = 0)

/-- The condition of the body's `scf.if` 1 (`k0_h2`), from the grid coordinates (the skeleton's scalar
    chain substituted). -/
abbrev cond0_1 (i : grid0.Coords) : Prop := k0_cond2 i = 1#1
/-- It holds at points 2, 4, 6, 8, 10, 12, 14, 16, 18, 20, 22, 24, 26, 28, 30, 32, 34, 36, 38, 40, 42, 44, 46, 48, 50, 52, 54, 56, 58, 60 and 62 only — decided over the grid. -/
theorem hcond0_1 : ∀ t : Fin cfg0.N, cond0_1 (grid0.coords t) ↔ (t.val % 65 = 2 ∨ t.val % 65 = 4 ∨ t.val % 65 = 6 ∨ t.val % 65 = 8 ∨ t.val % 65 = 10 ∨ t.val % 65 = 12 ∨ t.val % 65 = 14 ∨ t.val % 65 = 16 ∨ t.val % 65 = 18 ∨ t.val % 65 = 20 ∨ t.val % 65 = 22 ∨ t.val % 65 = 24 ∨ t.val % 65 = 26 ∨ t.val % 65 = 28 ∨ t.val % 65 = 30 ∨ t.val % 65 = 32 ∨ t.val % 65 = 34 ∨ t.val % 65 = 36 ∨ t.val % 65 = 38 ∨ t.val % 65 = 40 ∨ t.val % 65 = 42 ∨ t.val % 65 = 44 ∨ t.val % 65 = 46 ∨ t.val % 65 = 48 ∨ t.val % 65 = 50 ∨ t.val % 65 = 52 ∨ t.val % 65 = 54 ∨ t.val % 65 = 56 ∨ t.val % 65 = 58 ∨ t.val % 65 = 60 ∨ t.val % 65 = 62) :=
  (by decide +kernel : ∀ t : Fin grid0.N, cond0_1 (grid0.coords t) ↔ (t.val % 65 = 2 ∨ t.val % 65 = 4 ∨ t.val % 65 = 6 ∨ t.val % 65 = 8 ∨ t.val % 65 = 10 ∨ t.val % 65 = 12 ∨ t.val % 65 = 14 ∨ t.val % 65 = 16 ∨ t.val % 65 = 18 ∨ t.val % 65 = 20 ∨ t.val % 65 = 22 ∨ t.val % 65 = 24 ∨ t.val % 65 = 26 ∨ t.val % 65 = 28 ∨ t.val % 65 = 30 ∨ t.val % 65 = 32 ∨ t.val % 65 = 34 ∨ t.val % 65 = 36 ∨ t.val % 65 = 38 ∨ t.val % 65 = 40 ∨ t.val % 65 = 42 ∨ t.val % 65 = 44 ∨ t.val % 65 = 46 ∨ t.val % 65 = 48 ∨ t.val % 65 = 50 ∨ t.val % 65 = 52 ∨ t.val % 65 = 54 ∨ t.val % 65 = 56 ∨ t.val % 65 = 58 ∨ t.val % 65 = 60 ∨ t.val % 65 = 62))

/-- The condition of the body's `scf.if` 2 (`k0_h3`), from the grid coordinates (the skeleton's scalar
    chain substituted). -/
abbrev cond0_2 (i : grid0.Coords) : Prop := k0_cond3 i = 1#1
/-- It holds at the points ≡ 1 (mod 2) — decided over the grid. -/
theorem hcond0_2 : ∀ t : Fin cfg0.N, cond0_2 (grid0.coords t) ↔ t.val % 2 = 1 :=
  (by decide +kernel : ∀ t : Fin grid0.N, cond0_2 (grid0.coords t) ↔ t.val % 2 = 1)

/-- The condition of the body's `scf.if` 3 (`k0_h4`), from the grid coordinates (the skeleton's scalar
    chain substituted). -/
abbrev cond0_3 (i : grid0.Coords) : Prop := k0_cond4 i = 1#1
/-- It holds at the last point only — by arithmetic of the point. -/
theorem hcond0_3 : ∀ t : Fin cfg0.N, cond0_3 (grid0.coords t) ↔ t.val % 65 = 64 :=
  (fun t => by
    have ht : t.val < 65 := Nat.lt_of_lt_of_eq t.isLt N_0
    have e0 : (grid0.coords t 0).val = t.val / 1 % 65 := Pipeline.Grid.coords_val t 0 (by decide) rfl
    simp only [cond0_3, k0_cond4, e0]
    word_cmp
   : ∀ t : Fin grid0.N, cond0_3 (grid0.coords t) ↔ t.val % 65 = 64)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x5120 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x5120 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S5120x3840 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x3840 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x256 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S64x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x10x256x128 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x10x256x128 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x10x256x128 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S256x5120 .fp8e4m3 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x256 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S256x5120 .f32 := Memref.whole cc0_scratch0
abbrev scM0_1 : Memref sig .tc .vmem S2x256x5120 .fp8e4m3 := Memref.whole cc0_scratch1
abbrev scM0_2 : Memref sig .tc .vmem S2x256x128 .f32 := Memref.whole cc0_scratch2
abbrev scM0_3 : Memref sig .tc .vmem S2x256x128 .f32 := Memref.whole cc0_scratch3
abbrev scM0_4 : Memref sig .tc .vmem S2x256x128 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.KernelIdeal.Gen

end
-- ==== Proof.KernelIdeal.RunA.lean ====
/- The body's run at the first point: it quantises tile 0 and projects nothing. -/
module

public import proofs.«01_k».proof.Proof.KernelIdeal.Runs

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 2492000 in set_option sl_exec.squeezeSlice true in
/-- The body's triple IN CASE A (`scf.if` 0 taken, `scf.if` 1 not taken, `scf.if` 2 not taken, `scf.if` 3 not taken: points 0): on whole staging memrefs — the inputs' at their contents,
    the FORGOTTEN outputs' (6, 7, 8, 9, 10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_A (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S5120x3840 .fp8e4m3) (harg3 : arg3.IsWhole) (arg4 : Memref sig .tc .vmem S1x3840 .f32) (harg4 : arg4.IsWhole) (arg5 : Memref sig .tc .vmem S1x1x256 .i32) (harg5 : arg5.IsWhole) (arg6 : Memref sig .tc .vmem S64x256 .f32) (harg6 : arg6.IsWhole) (arg7 : Memref sig .tc .vmem S1x10x256x128 .bf16) (harg7 : arg7.IsWhole) (arg8 : Memref sig .tc .vmem S1x10x256x128 .bf16) (harg8 : arg8.IsWhole) (arg9 : Memref sig .tc .vmem S1x10x256x128 .bf16) (harg9 : arg9.IsWhole) (arg10 : Memref sig .tc .vmem S256x5120 .fp8e4m3) (harg10 : arg10.IsWhole) (arg11 : Memref sig .tc .vmem S1x1x256 .f32) (harg11 : arg11.IsWhole) (arg12 : Memref sig .tc .vmem S256x5120 .f32) (harg12 : arg12.IsWhole) (arg13 : Memref sig .tc .vmem S2x256x5120 .fp8e4m3) (harg13 : arg13.IsWhole) (arg14 : Memref sig .tc .vmem S2x256x128 .f32) (harg14 : arg14.IsWhole) (arg15 : Memref sig .tc .vmem S2x256x128 .f32) (harg15 : arg15.IsWhole) (arg16 : Memref sig .tc .vmem S2x256x128 .f32) (harg16 : arg16.IsWhole) (hc0 : cond0_0 i) (hc1 : ¬cond0_1 i) (hc2 : ¬cond0_2 i) (hc3 : ¬cond0_3 i)
    (x0 : Vec F S256x5120 .bf16) (x1 : Vec F S1x5120 .f32) (x2 : Vec F S5120x3840 .fp8e4m3) (x3 : Vec F S1x3840 .f32) (x4 : Vec F S1x1x256 .i32) (x5 : Vec F S64x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_rmsnorm_fp8_qkv_rope_eq_skeleton]; unfold cc0_rmsnorm_fp8_qkv_rope_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Gen

end
-- ==== Proof.KernelIdeal.RunB.lean ====
/- The body's run at an even point between: it projects the tile before and quantises the next into slot 0. -/
module

public import proofs.«01_k».proof.Proof.KernelIdeal.RunA

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3512000 in set_option sl_exec.squeezeSlice true in
/-- The body's triple IN CASE B (`scf.if` 0 not taken, `scf.if` 1 not taken, `scf.if` 2 taken, `scf.if` 3 not taken: points 1, 3, … 63: 32 of 65): on whole staging memrefs — the inputs' at their contents,
    the FORGOTTEN outputs' (6, 7, 8, 9, 10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_B (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S5120x3840 .fp8e4m3) (harg3 : arg3.IsWhole) (arg4 : Memref sig .tc .vmem S1x3840 .f32) (harg4 : arg4.IsWhole) (arg5 : Memref sig .tc .vmem S1x1x256 .i32) (harg5 : arg5.IsWhole) (arg6 : Memref sig .tc .vmem S64x256 .f32) (harg6 : arg6.IsWhole) (arg7 : Memref sig .tc .vmem S1x10x256x128 .bf16) (harg7 : arg7.IsWhole) (arg8 : Memref sig .tc .vmem S1x10x256x128 .bf16) (harg8 : arg8.IsWhole) (arg9 : Memref sig .tc .vmem S1x10x256x128 .bf16) (harg9 : arg9.IsWhole) (arg10 : Memref sig .tc .vmem S256x5120 .fp8e4m3) (harg10 : arg10.IsWhole) (arg11 : Memref sig .tc .vmem S1x1x256 .f32) (harg11 : arg11.IsWhole) (arg12 : Memref sig .tc .vmem S256x5120 .f32) (harg12 : arg12.IsWhole) (arg13 : Memref sig .tc .vmem S2x256x5120 .fp8e4m3) (harg13 : arg13.IsWhole) (arg14 : Memref sig .tc .vmem S2x256x128 .f32) (harg14 : arg14.IsWhole) (arg15 : Memref sig .tc .vmem S2x256x128 .f32) (harg15 : arg15.IsWhole) (arg16 : Memref sig .tc .vmem S2x256x128 .f32) (harg16 : arg16.IsWhole) (hc0 : ¬cond0_0 i) (hc1 : ¬cond0_1 i) (hc2 : cond0_2 i) (hc3 : ¬cond0_3 i)
    (x0 : Vec F S256x5120 .bf16) (x1 : Vec F S1x5120 .f32) (x2 : Vec F S5120x3840 .fp8e4m3) (x3 : Vec F S1x3840 .f32) (x4 : Vec F S1x1x256 .i32) (x5 : Vec F S64x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_rmsnorm_fp8_qkv_rope_eq_skeleton]; unfold cc0_rmsnorm_fp8_qkv_rope_skel
    simp only [k0_part182_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Gen

end
-- ==== Proof.KernelIdeal.RunC.lean ====
/- The body's run at an odd point between: it projects the tile before and quantises the next into slot 1. -/
module

public import proofs.«01_k».proof.Proof.KernelIdeal.RunB

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3512000 in set_option sl_exec.squeezeSlice true in
/-- The body's triple IN CASE C (`scf.if` 0 not taken, `scf.if` 1 taken, `scf.if` 2 not taken, `scf.if` 3 not taken: points 2, 4, … 62: 31 of 65): on whole staging memrefs — the inputs' at their contents,
    the FORGOTTEN outputs' (6, 7, 8, 9, 10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_C (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S5120x3840 .fp8e4m3) (harg3 : arg3.IsWhole) (arg4 : Memref sig .tc .vmem S1x3840 .f32) (harg4 : arg4.IsWhole) (arg5 : Memref sig .tc .vmem S1x1x256 .i32) (harg5 : arg5.IsWhole) (arg6 : Memref sig .tc .vmem S64x256 .f32) (harg6 : arg6.IsWhole) (arg7 : Memref sig .tc .vmem S1x10x256x128 .bf16) (harg7 : arg7.IsWhole) (arg8 : Memref sig .tc .vmem S1x10x256x128 .bf16) (harg8 : arg8.IsWhole) (arg9 : Memref sig .tc .vmem S1x10x256x128 .bf16) (harg9 : arg9.IsWhole) (arg10 : Memref sig .tc .vmem S256x5120 .fp8e4m3) (harg10 : arg10.IsWhole) (arg11 : Memref sig .tc .vmem S1x1x256 .f32) (harg11 : arg11.IsWhole) (arg12 : Memref sig .tc .vmem S256x5120 .f32) (harg12 : arg12.IsWhole) (arg13 : Memref sig .tc .vmem S2x256x5120 .fp8e4m3) (harg13 : arg13.IsWhole) (arg14 : Memref sig .tc .vmem S2x256x128 .f32) (harg14 : arg14.IsWhole) (arg15 : Memref sig .tc .vmem S2x256x128 .f32) (harg15 : arg15.IsWhole) (arg16 : Memref sig .tc .vmem S2x256x128 .f32) (harg16 : arg16.IsWhole) (hc0 : ¬cond0_0 i) (hc1 : cond0_1 i) (hc2 : ¬cond0_2 i) (hc3 : ¬cond0_3 i)
    (x0 : Vec F S256x5120 .bf16) (x1 : Vec F S1x5120 .f32) (x2 : Vec F S5120x3840 .fp8e4m3) (x3 : Vec F S1x3840 .f32) (x4 : Vec F S1x1x256 .i32) (x5 : Vec F S64x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_rmsnorm_fp8_qkv_rope_eq_skeleton]; unfold cc0_rmsnorm_fp8_qkv_rope_skel
    simp only [k0_part115_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Gen

end
-- ==== Proof.KernelIdeal.RunD.lean ====
/- The body's run at the last point: it projects the last tile and quantises nothing. -/
module

public import proofs.«01_k».proof.Proof.KernelIdeal.RunC

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1152000 in
/-- The body's triple IN CASE D (`scf.if` 0 not taken, `scf.if` 1 not taken, `scf.if` 2 not taken, `scf.if` 3 taken: points 64): on whole staging memrefs — the inputs' at their contents,
    the FORGOTTEN outputs' (6, 7, 8, 9, 10) at anything, handed back at some contents nothing names —
    the body runs to the continuation holding the inputs' as they were, the scratch at some contents: the printed functions are their skeletons (`Gen.*_eq_skeleton`),
    which `sl_exec` runs (Lib/Exec.lean) — each `scf.if` decided by the case's hypotheses `hc·`. -/
theorem kernelRun0_D (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S5120x3840 .fp8e4m3) (harg3 : arg3.IsWhole) (arg4 : Memref sig .tc .vmem S1x3840 .f32) (harg4 : arg4.IsWhole) (arg5 : Memref sig .tc .vmem S1x1x256 .i32) (harg5 : arg5.IsWhole) (arg6 : Memref sig .tc .vmem S64x256 .f32) (harg6 : arg6.IsWhole) (arg7 : Memref sig .tc .vmem S1x10x256x128 .bf16) (harg7 : arg7.IsWhole) (arg8 : Memref sig .tc .vmem S1x10x256x128 .bf16) (harg8 : arg8.IsWhole) (arg9 : Memref sig .tc .vmem S1x10x256x128 .bf16) (harg9 : arg9.IsWhole) (arg10 : Memref sig .tc .vmem S256x5120 .fp8e4m3) (harg10 : arg10.IsWhole) (arg11 : Memref sig .tc .vmem S1x1x256 .f32) (harg11 : arg11.IsWhole) (arg12 : Memref sig .tc .vmem S256x5120 .f32) (harg12 : arg12.IsWhole) (arg13 : Memref sig .tc .vmem S2x256x5120 .fp8e4m3) (harg13 : arg13.IsWhole) (arg14 : Memref sig .tc .vmem S2x256x128 .f32) (harg14 : arg14.IsWhole) (arg15 : Memref sig .tc .vmem S2x256x128 .f32) (harg15 : arg15.IsWhole) (arg16 : Memref sig .tc .vmem S2x256x128 .f32) (harg16 : arg16.IsWhole) (hc0 : ¬cond0_0 i) (hc1 : ¬cond0_1 i) (hc2 : ¬cond0_2 i) (hc3 : cond0_3 i)
    (x0 : Vec F S256x5120 .bf16) (x1 : Vec F S1x5120 .f32) (x2 : Vec F S5120x3840 .fp8e4m3) (x3 : Vec F S1x3840 .f32) (x4 : Vec F S1x1x256 .i32) (x5 : Vec F S64x256 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d)) -∗ K ⟨⟩))
          ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_rmsnorm_fp8_qkv_rope_eq_skeleton]; unfold cc0_rmsnorm_fp8_qkv_rope_skel
    rw [k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec (disch := first | sl_exact hc0 | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _, _; isplitr; swap; · iexact HS3
      ipureintro; rfl
    iexists _, _; isplitr; swap; · iexact HS4
    ipureintro; rfl

end Cert.KernelIdeal.Gen

end
-- ==== Proof.KernelIdeal.Frame.lean ====
/- The frame of the program: at every grid point the body runs and hands its buffers back, so the program
   terminates, leaves its arguments as they were and every counter at zero. Nothing is named of the results here. -/
module

public import proofs.«01_k».proof.Proof.KernelIdeal.RunD
public import Idealize.ShloMosaic.Lib.Claim

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (6, 7, 8, 9, 10): nothing reads what the kernel leaves in them, so nothing
    of it is named (Lib/Pipeline/Dat.lean `Dat.toRForget`). -/
def forgets0 : Fin 11 → Bool := fun w => w.val == 6 || w.val == 7 || w.val == 8 || w.val == 9 || w.val == 10

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 6400000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 65 := lt_of_lt_of_eq t.isLt (show cfg0.N = 65 from N_0)
  by_cases h0 : t.val % 65 = 0
  · by_cases h1 : (t.val % 65 = 2 ∨ t.val % 65 = 4 ∨ t.val % 65 = 6 ∨ t.val % 65 = 8 ∨ t.val % 65 = 10 ∨ t.val % 65 = 12 ∨ t.val % 65 = 14 ∨ t.val % 65 = 16 ∨ t.val % 65 = 18 ∨ t.val % 65 = 20 ∨ t.val % 65 = 22 ∨ t.val % 65 = 24 ∨ t.val % 65 = 26 ∨ t.val % 65 = 28 ∨ t.val % 65 = 30 ∨ t.val % 65 = 32 ∨ t.val % 65 = 34 ∨ t.val % 65 = 36 ∨ t.val % 65 = 38 ∨ t.val % 65 = 40 ∨ t.val % 65 = 42 ∨ t.val % 65 = 44 ∨ t.val % 65 = 46 ∨ t.val % 65 = 48 ∨ t.val % 65 = 50 ∨ t.val % 65 = 52 ∨ t.val % 65 = 54 ∨ t.val % 65 = 56 ∨ t.val % 65 = 58 ∨ t.val % 65 = 60 ∨ t.val % 65 = 62)
    · exfalso; omega
    · by_cases h2 : t.val % 2 = 1
      · exfalso; omega
      · by_cases h3 : t.val % 65 = 64
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_A c (grid0.coords t) _ _ _ _ _ _ _ _ _ _ _ _ _ _ _ _ _ _ _ _ _ _ _ _ _ _ _ _ _ _ _ _ ((hcond0_0 t).mpr h0) (fun h => h1 ((hcond0_1 t).mp h)) (fun h => h2 ((hcond0_2 t).mp h)) (fun h => h3 ((hcond0_3 t).mp h)) (iblk m c 0 t) (iblk m c 1 t) (iblk m c 2 t) (iblk m c 3 t) (iblk m c 4 t) (iblk m c 5 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [H9]; · iexists _; iexact H9
          isplitl [H10]; · iexists _; iexact H10
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, H8, H9, H10, HS0, HS1, HS2, HS3, HS4⟩
          isplitl [HS0 HS1 HS2 HS3 HS4 Hg]
          · isplitl [HS0 HS1 HS2 HS3 HS4]
            · isplitl [HS0]
              · iexact HS0
              isplitl [HS1]
              · iexact HS1
              isplitl [HS2]
              · iexact HS2
              isplitl [HS3]
              · iexact HS3
              iexact HS4
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexact H10
  · by_cases h1 : (t.val % 65 = 2 ∨ t.val % 65 = 4 ∨ t.val % 65 = 6 ∨ t.val % 65 = 8 ∨ t.val % 65 = 10 ∨ t.val % 65 = 12 ∨ t.val % 65 = 14 ∨ t.val % 65 = 16 ∨ t.val % 65 = 18 ∨ t.val % 65 = 20 ∨ t.val % 65 = 22 ∨ t.val % 65 = 24 ∨ t.val % 65 = 26 ∨ t.val % 65 = 28 ∨ t.val % 65 = 30 ∨ t.val % 65 = 32 ∨ t.val % 65 = 34 ∨ t.val % 65 = 36 ∨ t.val % 65 = 38 ∨ t.val % 65 = 40 ∨ t.val % 65 = 42 ∨ t.val % 65 = 44 ∨ t.val % 65 = 46 ∨ t.val % 65 = 48 ∨ t.val % 65 = 50 ∨ t.val % 65 = 52 ∨ t.val % 65 = 54 ∨ t.val % 65 = 56 ∨ t.val % 65 = 58 ∨ t.val % 65 = 60 ∨ t.val % 65 = 62)
    · by_cases h2 : t.val % 2 = 1
      · exfalso; omega
      · by_cases h3 : t.val % 65 = 64
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_C c (grid0.coords t) _ _ _ _ _ _ _ _ _ _ _ _ _ _ _ _ _ _ _ _ _ _ _ _ _ _ _ _ _ _ _ _ (fun h => h0 ((hcond0_0 t).mp h)) ((hcond0_1 t).mpr h1) (fun h => h2 ((hcond0_2 t).mp h)) (fun h => h3 ((hcond0_3 t).mp h)) (iblk m c 0 t) (iblk m c 1 t) (iblk m c 2 t) (iblk m c 3 t) (iblk m c 4 t) (iblk m c 5 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [H9]; · iexists _; iexact H9
          isplitl [H10]; · iexists _; iexact H10
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, H8, H9, H10, HS0, HS1, HS2, HS3, HS4⟩
          isplitl [HS0 HS1 HS2 HS3 HS4 Hg]
          · isplitl [HS0 HS1 HS2 HS3 HS4]
            · isplitl [HS0]
              · iexact HS0
              isplitl [HS1]
              · iexact HS1
              isplitl [HS2]
              · iexact HS2
              isplitl [HS3]
              · iexact HS3
              iexact HS4
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexact H10
    · by_cases h2 : t.val % 2 = 1
      · by_cases h3 : t.val % 65 = 64
        · exfalso; omega
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_B c (grid0.coords t) _ _ _ _ _ _ _ _ _ _ _ _ _ _ _ _ _ _ _ _ _ _ _ _ _ _ _ _ _ _ _ _ (fun h => h0 ((hcond0_0 t).mp h)) (fun h => h1 ((hcond0_1 t).mp h)) ((hcond0_2 t).mpr h2) (fun h => h3 ((hcond0_3 t).mp h)) (iblk m c 0 t) (iblk m c 1 t) (iblk m c 2 t) (iblk m c 3 t) (iblk m c 4 t) (iblk m c 5 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [H9]; · iexists _; iexact H9
          isplitl [H10]; · iexists _; iexact H10
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, H8, H9, H10, HS0, HS1, HS2, HS3, HS4⟩
          isplitl [HS0 HS1 HS2 HS3 HS4 Hg]
          · isplitl [HS0 HS1 HS2 HS3 HS4]
            · isplitl [HS0]
              · iexact HS0
              isplitl [HS1]
              · iexact HS1
              isplitl [HS2]
              · iexact HS2
              isplitl [HS3]
              · iexact HS3
              iexact HS4
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexact H10
      · by_cases h3 : t.val % 65 = 64
        · rw [show (dats m 0 c).leavesExact 0 t = owns (c : Thread nD τ) (ms0_0 t) fullShare ((dats m 0 c).after 0 t) from by
      unfold Dat.leavesExact; rw [liveAt0_0 t], after0_0]
          rw [show (dats m 0 c).leavesExact 1 t = owns (c : Thread nD τ) (ms0_1 t) fullShare ((dats m 0 c).after 1 t) from by
      unfold Dat.leavesExact; rw [liveAt0_1 t], after0_1]
          rw [show (dats m 0 c).leavesExact 2 t = owns (c : Thread nD τ) (ms0_2 t) fullShare ((dats m 0 c).after 2 t) from by
      unfold Dat.leavesExact; rw [liveAt0_2 t], after0_2]
          rw [show (dats m 0 c).leavesExact 3 t = owns (c : Thread nD τ) (ms0_3 t) fullShare ((dats m 0 c).after 3 t) from by
      unfold Dat.leavesExact; rw [liveAt0_3 t], after0_3]
          rw [show (dats m 0 c).leavesExact 4 t = owns (c : Thread nD τ) (ms0_4 t) fullShare ((dats m 0 c).after 4 t) from by
      unfold Dat.leavesExact; rw [liveAt0_4 t], after0_4]
          rw [show (dats m 0 c).leavesExact 5 t = owns (c : Thread nD τ) (ms0_5 t) fullShare ((dats m 0 c).after 5 t) from by
      unfold Dat.leavesExact; rw [liveAt0_5 t], after0_5]
          iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
          iapply ((kernelRun0_D c (grid0.coords t) _ _ _ _ _ _ _ _ _ _ _ _ _ _ _ _ _ _ _ _ _ _ _ _ _ _ _ _ _ _ _ _ (fun h => h0 ((hcond0_0 t).mp h)) (fun h => h1 ((hcond0_1 t).mp h)) (fun h => h2 ((hcond0_2 t).mp h)) ((hcond0_3 t).mpr h3) (iblk m c 0 t) (iblk m c 1 t) (iblk m c 2 t) (iblk m c 3 t) (iblk m c 4 t) (iblk m c 5 t)) Set.univ _)
          isplitl [H0]; · iexact H0
          isplitl [H1]; · iexact H1
          isplitl [H2]; · iexact H2
          isplitl [H3]; · iexact H3
          isplitl [H4]; · iexact H4
          isplitl [H5]; · iexact H5
          isplitl [H6]; · iexists _; iexact H6
          isplitl [H7]; · iexists _; iexact H7
          isplitl [H8]; · iexists _; iexact H8
          isplitl [H9]; · iexists _; iexact H9
          isplitl [H10]; · iexists _; iexact H10
          isplitl [HS0]; · iexact HS0
          isplitl [HS1]; · iexact HS1
          isplitl [HS2]; · iexact HS2
          isplitl [HS3]; · iexact HS3
          isplitl [HS4]; · iexact HS4
          iintro ⟨H0, H1, H2, H3, H4, H5, H6, H7, H8, H9, H10, HS0, HS1, HS2, HS3, HS4⟩
          isplitl [HS0 HS1 HS2 HS3 HS4 Hg]
          · isplitl [HS0 HS1 HS2 HS3 HS4]
            · isplitl [HS0]
              · iexact HS0
              isplitl [HS1]
              · iexact HS1
              isplitl [HS2]
              · iexact HS2
              isplitl [HS3]
              · iexact HS3
              iexact HS4
            iexact Hg
          isplitl [Ho]; · iexact Ho
          isplitl [H0]; · iexact H0
          isplitl [H1]; · iexact H1
          isplitl [H2]; · iexact H2
          isplitl [H3]; · iexact H3
          isplitl [H4]; · iexact H4
          isplitl [H5]; · iexact H5
          isplitl [H6]; · iexact H6
          isplitl [H7]; · iexact H7
          isplitl [H8]; · iexact H8
          isplitl [H9]; · iexact H9
          iexact H10
        · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 6, 7, 8, 9, 10) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (fun c => (dats m 0 c).toRForget forgets0) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.KernelIdeal.Gen

end
-- ==== Proof.KernelIdeal.Model.lean ====
/- What the kernel body computes of one tile, as functions of the arrays it reads: the same operations in the same
   order as the printed body, each stage named once for both blocks of rows and all four cases of the body. -/
module

public import proofs.«01_k».proof.Proof.KernelIdeal.Runs

@[expose] public section

set_option maxRecDepth 16384

noncomputable section

namespace Cert.KernelIdeal.Gen

open Idealize.ShloMosaic Idealize.ShloMosaic.TcCoe

variable {F : FTy → Type} [FloatOps F] [Named F]

namespace Tile

/-! ## The loads of one block of 128 rows -/

/-- Load `j` of the rows from `b`: 256 of the columns. -/
def xld (x : Vec F S256x5120 .bf16) (b : ℕ) (hb : b ≤ 128) (j : Fin 20) : Vec F S128x256 .bf16 :=
  View.ld x (Rect.unit ![b, 256 * j.val] S128x256.size (fun a => by fin_cases a <;> simp <;> omega))

/-- Load `k` of the gain: 128 of the columns. -/
def gld (g : Vec F S1x5120 .f32) (k : ℕ) (hk : k < 40) : Vec F S1x128 .f32 :=
  View.ld g (Rect.unit ![0, 128 * k] S1x128.size (fun a => by fin_cases a <;> simp <;> omega))

/-! ## The sum of squares -/

def half0 (v : Vec F S128x256 .bf16) : FVec F S128x128 .f32 :=
  extractStridedSlice S128x128 ![0, 0] (extf .f32 (shapeCast S128x256 v shapeCasts_S128x256_S128x256) bitsLt_bf16_f32 : FVec F S128x256 .f32) slices_S128x256_o0_0_S128x128
def half1 (v : Vec F S128x256 .bf16) : FVec F S128x128 .f32 :=
  extractStridedSlice S128x128 ![0, 128] (extf .f32 (shapeCast S128x256 v shapeCasts_S128x256_S128x256) bitsLt_bf16_f32 : FVec F S128x256 .f32) slices_S128x256_o0_128_S128x128

/-- The squares of one load added to `p`. -/
def addSq (p : FVec F S128x128 .f32) (v : Vec F S128x256 .bf16) : FVec F S128x128 .f32 :=
  addf (mulf (half1 v) (half1 v)) (addf (mulf (half0 v) (half0 v)) p)

def squares (a b c d : Vec F S128x256 .bf16) : FVec F S128x128 .f32 :=
  addSq (addSq (addSq (addf (mulf (half1 a) (half1 a)) (mulf (half0 a) (half0 a))) b) c) d

/-- Sixteen groups of eight rows added up. -/
def groups (p : FVec F S128x128 .f32) : FVec F S8x128 .f32 :=
  addf (addf (addf (addf (addf (addf (addf (addf (addf (addf (addf (addf (addf (addf (addf
    (extractStridedSlice S8x128 ![0, 0] p slices_S128x128_o0_0_S8x128)
    (extractStridedSlice S8x128 ![8, 0] p slices_S128x128_o8_0_S8x128))
    (extractStridedSlice S8x128 ![16, 0] p slices_S128x128_o16_0_S8x128))
    (extractStridedSlice S8x128 ![24, 0] p slices_S128x128_o24_0_S8x128))
    (extractStridedSlice S8x128 ![32, 0] p slices_S128x128_o32_0_S8x128))
    (extractStridedSlice S8x128 ![40, 0] p slices_S128x128_o40_0_S8x128))
    (extractStridedSlice S8x128 ![48, 0] p slices_S128x128_o48_0_S8x128))
    (extractStridedSlice S8x128 ![56, 0] p slices_S128x128_o56_0_S8x128))
    (extractStridedSlice S8x128 ![64, 0] p slices_S128x128_o64_0_S8x128))
    (extractStridedSlice S8x128 ![72, 0] p slices_S128x128_o72_0_S8x128))
    (extractStridedSlice S8x128 ![80, 0] p slices_S128x128_o80_0_S8x128))
    (extractStridedSlice S8x128 ![88, 0] p slices_S128x128_o88_0_S8x128))
    (extractStridedSlice S8x128 ![96, 0] p slices_S128x128_o96_0_S8x128))
    (extractStridedSlice S8x128 ![104, 0] p slices_S128x128_o104_0_S8x128))
    (extractStridedSlice S8x128 ![112, 0] p slices_S128x128_o112_0_S8x128))
    (extractStridedSlice S8x128 ![120, 0] p slices_S128x128_o120_0_S8x128)

/-- The eight rows added up, into every row. -/
def rollAdd (n : BitVec 32) (q : FVec F S8x128 .f32) : FVec F S8x128 .f32 := addf (dynamicRotate 0 n none q rotates_S8x128_d0) q

def chunkSum (a b c d : Vec F S128x256 .bf16) : FVec F S8x128 .f32 :=
  rollAdd 1#32 (rollAdd 2#32 (rollAdd 4#32 (groups (transpose S128x128 [1, 0] (squares a b c d) transposes_S128x128_p1_0_S128x128))))

def total (X : Fin 20 → Vec F S128x256 .bf16) : FVec F S8x128 .f32 :=
  addf (chunkSum (X 16) (X 17) (X 18) (X 19)) (addf (chunkSum (X 12) (X 13) (X 14) (X 15)) (addf (chunkSum (X 8) (X 9) (X 10) (X 11))
    (addf (chunkSum (X 4) (X 5) (X 6) (X 7)) (chunkSum (X 0) (X 1) (X 2) (X 3)))))

/-- The reciprocal root, one lane per row turned into one row of equal lanes. -/
def rstd (s : FVec F S8x128 .f32) : FVec F S128x128 .f32 :=
  transpose S128x128 [1, 0] (broadcastTo S128x128 (shapeCast S1x128 (extractStridedSlice S1x128 ![0, 0]
    (rsqrt (addf (mulf s (broadcast S8x128 (Named.named κ "inv_n" 0x394CCCCD#32 : F .f32))) (broadcast S8x128 (Scalar.ofBits .f32 0x358637BD#32 : F .f32))) : FVec F S8x128 .f32)
    slices_S8x128_o0_0_S1x128) shapeCasts_S1x128_S1x128) broadcasts_S1x128_S128x128) transposes_S128x128_p1_0_S128x128

/-! ## The normalised rows and their largest magnitude -/

def times (xf r : FVec F S128x128 .f32) (g : Vec F S1x128 .f32) : FVec F S128x128 .f32 :=
  mulf (mulf xf r) (broadcastTo S128x128 (shapeCast S1x128 g shapeCasts_S1x128_S1x128) broadcasts_S1x128_S128x128)

def hc0 (x : Vec F S256x5120 .bf16) (g : Vec F S1x5120 .f32) (b : ℕ) (hb : b ≤ 128) (r : FVec F S128x128 .f32) (j : Fin 20) : FVec F S128x128 .f32 :=
  times (half0 (xld x b hb j)) r (gld g (2 * j.val) (by omega))
def hc1 (x : Vec F S256x5120 .bf16) (g : Vec F S1x5120 .f32) (b : ℕ) (hb : b ≤ 128) (r : FVec F S128x128 .f32) (j : Fin 20) : FVec F S128x128 .f32 :=
  times (half1 (xld x b hb j)) r (gld g (2 * j.val + 1) (by omega))

/-- The running maximum over the loads. -/
def runMax (h0 h1 : Fin 20 → FVec F S128x128 .f32) : FVec F S128x128 .f32 :=
  ([1, 2, 3, 4, 5, 6, 7, 8, 9, 10, 11, 12, 13, 14, 15, 16, 17, 18, 19] : List (Fin 20)).foldl
    (fun p j => maximumf (maximumf p (absf (h0 j))) (absf (h1 j))) (maximumf (absf (h0 0)) (absf (h1 0)))

def rr (x : Vec F S256x5120 .bf16) (b : ℕ) (hb : b ≤ 128) : FVec F S128x128 .f32 := rstd (total (xld x b hb))

/-- The largest magnitude of each row. -/
def amax (x : Vec F S256x5120 .bf16) (g : Vec F S1x5120 .f32) (b : ℕ) (hb : b ≤ 128) : FVec F S128x1 .f32 :=
  shapeCast S128x1 (multiReduction .maximumf [1] S128 (runMax (hc0 x g b hb (rr x b hb)) (hc1 x g b hb (rr x b hb)))
    0xFF800000#32 reduces_S128x128_S128 (.inl rfl) rfl) shapeCasts_S128_S128x1

/-! ## The scales -/

def ladder (a : FVec F S128x1 .f32) (k : BitVec 32) (e : IVec S128x1 32) : IVec S128x1 32 :=
  select (cmpf .oge a (bitcastToFloat .f32 (shli (addi e (broadcast S128x1 k)) (broadcast S128x1 23#32)) : FVec F S128x1 .f32)) (addi e (broadcast S128x1 k)) e

def fieldOf (a : FVec F S128x1 .f32) : IVec S128x1 32 :=
  ladder a 1#32 (ladder a 2#32 (ladder a 4#32 (ladder a 8#32 (ladder a 16#32 (ladder a 32#32 (ladder a 64#32 (ladder a 128#32 (broadcast S128x1 0#32))))))))

def biased (a : FVec F S128x1 .f32) : IVec S128x1 32 :=
  select (cmpi .sge (fieldOf a) (broadcast S128x1 253#32)) (broadcast S128x1 255#32) (fieldOf a)

def scaled (m : FVec F S128x1 .f32) : FVec F S128x1 .f32 := mulf m (broadcast S128x1 (Scalar.ofBits .f32 0x3B124925#32 : F .f32))

def plain (m : FVec F S128x1 .f32) : IVec S128x1 1 :=
  ori (ori (cmpi .eq (biased (scaled m)) (broadcast S128x1 0#32)) (cmpi .eq (biased (scaled m)) (broadcast S128x1 255#32)))
    (cmpf .oeq m (broadcast S128x1 (Scalar.ofBits .f32 0x00000000#32 : F .f32)))

def scaleBits (m : FVec F S128x1 .f32) : IVec S128x1 32 :=
  shli (select (plain m) (broadcast S128x1 127#32) (addi (biased (scaled m)) (broadcast S128x1 1#32))) (broadcast S128x1 23#32)

def inv (m : FVec F S128x1 .f32) : FVec F S128x1 .f32 :=
  bitcastToFloat .f32 (shli (select (plain m) (broadcast S128x1 127#32) (subi (broadcast S128x1 253#32) (biased (scaled m)))) (broadcast S128x1 23#32))

def srep (m : FVec F S128x1 .f32) : FVec F S128x128 .f32 :=
  broadcastTo S128x128 (shapeCast S128x1 (bitcastToFloat .f32 (scaleBits m) : FVec F S128x1 .f32) shapeCasts_S128x1_S128x1) broadcasts_S128x1_S128x128

def srepPay (m : FVec F S128x1 .f32) : FVec F S128x128 .f32 := shapeCast S128x128 (srep m) shapeCasts_S128x128_S128x128

def scalePay (m : FVec F S128x1 .f32) : FVec F S1x1x128 .f32 :=
  shapeCast S1x1x128 (extractStridedSlice S1x128 ![0, 0] (transpose S128x128 [1, 0] (srep m) transposes_S128x128_p1_0_S128x128)
    slices_S128x128_o0_0_S1x128) shapeCasts_S1x128_S1x1x128

/-! ## The rows kept and read back, and the codes -/

def hPiece0 (x : Vec F S256x5120 .bf16) (g : Vec F S1x5120 .f32) (b : ℕ) (hb : b ≤ 128) (j : Fin 20) : View.Piece (Elt F) S256x5120 .f32 :=
  ⟨Rect.unit ![b, 256 * j.val] S128x128.size (fun a => by fin_cases a <;> simp <;> omega),
    shapeCast S128x128 (hc0 x g b hb (rr x b hb) j) shapeCasts_S128x128_S128x128⟩
def hPiece1 (x : Vec F S256x5120 .bf16) (g : Vec F S1x5120 .f32) (b : ℕ) (hb : b ≤ 128) (j : Fin 20) : View.Piece (Elt F) S256x5120 .f32 :=
  ⟨Rect.unit ![b, 256 * j.val + 128] S128x128.size (fun a => by fin_cases a <;> simp <;> omega),
    shapeCast S128x128 (hc1 x g b hb (rr x b hb) j) shapeCasts_S128x128_S128x128⟩

/-- The stores of one block of normalised rows, the last first, over `L`. -/
def hPieces (x : Vec F S256x5120 .bf16) (g : Vec F S1x5120 .f32) (b : ℕ) (hb : b ≤ 128) (L : List (View.Piece (Elt F) S256x5120 .f32)) :
    List (View.Piece (Elt F) S256x5120 .f32) :=
  ([0, 1, 2, 3, 4, 5, 6, 7, 8, 9, 10, 11, 12, 13, 14, 15, 16, 17, 18, 19] : List (Fin 20)).foldl
    (fun L j => hPiece1 x g b hb j :: hPiece0 x g b hb j :: L) L

def hL0 (x : Vec F S256x5120 .bf16) (g : Vec F S1x5120 .f32) : List (View.Piece (Elt F) S256x5120 .f32) := hPieces x g 0 (by omega) []
def hL1 (x : Vec F S256x5120 .bf16) (g : Vec F S1x5120 .f32) : List (View.Piece (Elt F) S256x5120 .f32) := hPieces x g 128 (by omega) (hL0 x g)

def codes (iv : FVec F S128x1 .f32) (h : Vec F S128x1280 .f32) : FVec F S128x1280 .fp8e4m3 :=
  truncf .fp8e4m3 (minimumf (broadcast S128x1280 (Scalar.ofBits .f32 0x43E00000#32 : F .f32))
    (maximumf (broadcast S128x1280 (Scalar.ofBits .f32 0xC3E00000#32 : F .f32)) (mulf h (broadcastTo S128x1280 iv broadcasts_S128x1_S128x1280)))) bitsLt_fp8e4m3_f32

def codesS (iv : FVec F S128x1 .f32) (h : Vec F S128x1280 .f32) : Vec F S1x128x1280 .fp8e4m3 :=
  shapeCast S1x128x1280 (shapeCast S128x1280 (codes iv h) shapeCasts_S128x1280_S128x1280) shapeCasts_S128x1280_S1x128x1280

section
variable (v : View sig .tc .vmem S256x5120 .f32) (x : Vec F S256x5120 .bf16) (g : Vec F S1x5120 .f32)

/-- The block of 1280 columns read back from the rows kept. -/
def hback (L : List (View.Piece (Elt F) S256x5120 .f32)) (b : ℕ) (hb : b ≤ 128) (c : Fin 4) : Vec F S128x1280 .f32 :=
  v.readCov L (Rect.unit (s := S256x5120) ![b, 1280 * c.val] S128x1280.size (fun a => by fin_cases a <;> simp <;> omega)).toLoadRect

def codePiece (L : List (View.Piece (Elt F) S256x5120 .f32)) (b : ℕ) (hb : b ≤ 128) (c : Fin 4) : View.Piece (Elt F) S256x5120 .fp8e4m3 :=
  ⟨Rect.unit ![b, 1280 * c.val] S128x1280.size (fun a => by fin_cases a <;> simp <;> omega), codes (inv (amax x g b hb)) (hback v L b hb c)⟩

/-- The stores of the codes to the result, the last first. -/
def codePieces : List (View.Piece (Elt F) S256x5120 .fp8e4m3) :=
  [codePiece v x g (hL1 x g) 128 (by omega) 3, codePiece v x g (hL1 x g) 128 (by omega) 2, codePiece v x g (hL1 x g) 128 (by omega) 1, codePiece v x g (hL1 x g) 128 (by omega) 0,
   codePiece v x g (hL0 x g) 0 (by omega) 3, codePiece v x g (hL0 x g) 0 (by omega) 2, codePiece v x g (hL0 x g) 0 (by omega) 1, codePiece v x g (hL0 x g) 0 (by omega) 0]

def codePieceS (s : Fin 2) (L : List (View.Piece (Elt F) S256x5120 .f32)) (b : ℕ) (hb : b ≤ 128) (c : Fin 4) : View.Piece (Elt F) S2x256x5120 .fp8e4m3 :=
  ⟨Rect.unit ![s.val, b, 1280 * c.val] S1x128x1280.size (fun a => by fin_cases a <;> simp <;> omega), codesS (inv (amax x g b hb)) (hback v L b hb c)⟩

/-- The stores of the codes to slot `s` of the scratch, the last first. -/
def codePiecesS (s : Fin 2) : List (View.Piece (Elt F) S2x256x5120 .fp8e4m3) :=
  [codePieceS v x g s (hL1 x g) 128 (by omega) 3, codePieceS v x g s (hL1 x g) 128 (by omega) 2, codePieceS v x g s (hL1 x g) 128 (by omega) 1, codePieceS v x g s (hL1 x g) 128 (by omega) 0,
   codePieceS v x g s (hL0 x g) 0 (by omega) 3, codePieceS v x g s (hL0 x g) 0 (by omega) 2, codePieceS v x g s (hL0 x g) 0 (by omega) 1, codePieceS v x g s (hL0 x g) 0 (by omega) 0]

end

def scalePieces (x : Vec F S256x5120 .bf16) (g : Vec F S1x5120 .f32) : List (View.Piece (Elt F) S1x1x256 .f32) :=
  [⟨Rect.unit ![0, 0, 128] S1x1x128.size inb_S1x1x256_S1x1x128_0_0_128, scalePay (amax x g 128 (by omega))⟩,
   ⟨Rect.unit ![0, 0, 0] S1x1x128.size inb_S1x1x256_S1x1x128_0_0_0, scalePay (amax x g 0 (by omega))⟩]

/-! ## The scratch: scales repeated along the lanes, and the tables of the rotation -/

def rows128 (b : ℕ) (hb : b ≤ 128) : Rect S256x128 :=
  Rect.unit (s := S256x128) ![b, 0] S128x128.size (fun a => by fin_cases a <;> simp <;> omega)

theorem tail_sizes : ∀ i : Fin 2, (![1, 256, 128] : Fin 3 → ℕ) i.succ = S256x128.size i := fun i => by fin_cases i <;> rfl

def srepRect (s : Fin 2) (b : ℕ) (hb : b ≤ 128) : Rect S2x256x128 :=
  (Rect.unit (s := S2x256x128) ![s.val, 0, 0] S1x256x128.size (fun a => by fin_cases a <;> simp <;> omega)).within
    ((rows128 b hb).consLift ![1, 256, 128] rfl tail_sizes) (fun _ => rfl)

def srepPiece (s : Fin 2) (b : ℕ) (hb : b ≤ 128) (m : FVec F S128x1 .f32) : View.Piece (Elt F) S2x256x128 .f32 :=
  ⟨srepRect s b hb, Rect.payAlong (R := srepRect s b hb) (r := rows128 b hb)
    (Rect.numel_consLift (rows128 b hb) ![1, 256, 128] rfl tail_sizes) (srepPay m : S128x128.Idx → Elt F .f32)⟩

def srepPieces (s : Fin 2) (x : Vec F S256x5120 .bf16) (g : Vec F S1x5120 .f32) : List (View.Piece (Elt F) S2x256x128 .f32) :=
  [srepPiece s 128 (by omega) (amax x g 128 (by omega)), srepPiece s 0 (by omega) (amax x g 0 (by omega))]

def angle (pos : Vec F S1x1x256 .i32) (fr : Vec F S64x256 .f32) : FVec F S64x256 .f32 :=
  mulf (broadcastTo S64x256 (sitofp .f32 (shapeCast S1x256 (View.ld pos (Rect.unit (s := S1x1x256) ![0, 0, 0] S1x1x256.size inb_S1x1x256_S1x1x256_0_0_0) : Vec F S1x1x256 .i32) shapeCasts_S1x1x256_S1x256 : IVec S1x256 32) : FVec F S1x256 .f32) broadcasts_S1x256_S64x256)
    (shapeCast S64x256 (View.ld fr (Rect.unit (s := S64x256) ![0, 0] S64x256.size inb_S64x256_S64x256_0_0) : Vec F S64x256 .f32) shapeCasts_S64x256_S64x256)

def cosTab (a : FVec F S64x256 .f32) : FVec F S1x256x128 .f32 :=
  shapeCast S1x256x128 (transpose S256x128 [1, 0] (concatenate S128x256 0 [⟨S64x256, cos a⟩, ⟨S64x256, cos a⟩] concatenates_S64x256_S64x256_S128x256_d0)
    transposes_S128x256_p1_0_S256x128) shapeCasts_S256x128_S1x256x128
def sinTab (a : FVec F S64x256 .f32) : FVec F S1x256x128 .f32 :=
  shapeCast S1x256x128 (transpose S256x128 [1, 0] (concatenate S128x256 0 [⟨S64x256, subf (broadcast S64x256 (Scalar.ofBits .f32 0x00000000#32 : F .f32)) (sin a)⟩, ⟨S64x256, sin a⟩]
    concatenates_S64x256_S64x256_S128x256_d0) transposes_S128x256_p1_0_S256x128) shapeCasts_S256x128_S1x256x128

def slotRect (s : Fin 2) : Rect S2x256x128 := Rect.unit (s := S2x256x128) ![s.val, 0, 0] S1x256x128.size (fun a => by fin_cases a <;> simp <;> omega)
def slotRectC (s : Fin 2) : Rect S2x256x5120 := Rect.unit (s := S2x256x5120) ![s.val, 0, 0] S1x256x5120.size (fun a => by fin_cases a <;> simp <;> omega)

def cosPieces (s : Fin 2) (pos : Vec F S1x1x256 .i32) (fr : Vec F S64x256 .f32) : List (View.Piece (Elt F) S2x256x128 .f32) :=
  [⟨slotRect s, cosTab (angle pos fr)⟩]
def sinPieces (s : Fin 2) (pos : Vec F S1x1x256 .i32) (fr : Vec F S64x256 .f32) : List (View.Piece (Elt F) S2x256x128 .f32) :=
  [⟨slotRect s, sinTab (angle pos fr)⟩]

/-! ## The projection of a stored tile: two heads for each block of 256 columns of the weights -/

section
variable (C : Vec F S1x256x5120 .fp8e4m3) (S co si : Vec F S1x256x128 .f32) (w : Vec F S5120x3840 .fp8e4m3) (ws : Vec F S1x3840 .f32)

def acc (q : Fin 3) (i : Fin 5) : FVec F S256x256 .f32 :=
  matmul dot_S256x5120_S5120x256_S256x256_1_0_0_1_n_n none (shapeCast S256x5120 C shapeCasts_S1x256x5120_S256x5120)
    (View.ld w (Rect.unit (s := S5120x3840) ![0, 256 * (5 * q.val + i.val)] S5120x256.size (fun a => by fin_cases a <;> simp <;> omega)) : Vec F S5120x256 .fp8e4m3)
    (constant S256x256 .f32 0x00000000#32)

def wscale (n : ℕ) (hn : n < 30) : FVec F S256x128 .f32 :=
  broadcastTo S256x128 (shapeCast S1x128 (View.ld ws (Rect.unit (s := S1x3840) ![0, 128 * n] S1x128.size (fun a => by fin_cases a <;> simp <;> omega)) : Vec F S1x128 .f32)
    shapeCasts_S1x128_S1x128) broadcasts_S1x128_S256x128

def y0 (q : Fin 3) (i : Fin 5) : FVec F S256x128 .f32 :=
  mulf (mulf (extractStridedSlice S256x128 ![0, 0] (acc C w q i) slices_S256x256_o0_0_S256x128) (shapeCast S256x128 S shapeCasts_S1x256x128_S256x128))
    (wscale ws (2 * (5 * q.val + i.val)) (by omega))
def y1 (q : Fin 3) (i : Fin 5) : FVec F S256x128 .f32 :=
  mulf (mulf (extractStridedSlice S256x128 ![0, 128] (acc C w q i) slices_S256x256_o0_128_S256x128) (shapeCast S256x128 S shapeCasts_S1x256x128_S256x128))
    (wscale ws (2 * (5 * q.val + i.val) + 1) (by omega))

def roped (y : FVec F S256x128 .f32) : FVec F S256x128 .f32 :=
  addf (mulf y (shapeCast S256x128 co shapeCasts_S1x256x128_S256x128))
    (mulf (dynamicRotate 1 64#32 none y rotates_S256x128_d1) (shapeCast S256x128 si shapeCasts_S1x256x128_S256x128))

def stored (y : FVec F S256x128 .f32) : FVec F S1x1x256x128 .bf16 :=
  shapeCast S1x1x256x128 (truncf .bf16 y bitsLt_bf16_f32 : FVec F S256x128 .bf16) shapeCasts_S256x128_S1x1x256x128

def headPiece (n : Fin 10) (p : FVec F S256x128 .f32) : View.Piece (Elt F) S1x10x256x128 .bf16 :=
  ⟨Rect.unit (s := S1x10x256x128) ![0, n.val, 0, 0] S1x1x256x128.size (fun a => by fin_cases a <;> simp <;> omega), stored p⟩

/-- The stores of one result, the last first: `f0` and `f1` the heads of each pair. -/
def headPieces (f0 f1 : Fin 5 → FVec F S256x128 .f32) : List (View.Piece (Elt F) S1x10x256x128 .bf16) :=
  [headPiece 9 (f1 4), headPiece 8 (f0 4), headPiece 7 (f1 3), headPiece 6 (f0 3), headPiece 5 (f1 2), headPiece 4 (f0 2),
   headPiece 3 (f1 1), headPiece 2 (f0 1), headPiece 1 (f1 0), headPiece 0 (f0 0)]

def qPieces : List (View.Piece (Elt F) S1x10x256x128 .bf16) :=
  headPieces (fun i => roped co si (y0 C S w ws 0 i)) (fun i => roped co si (y1 C S w ws 0 i))
def kPieces : List (View.Piece (Elt F) S1x10x256x128 .bf16) :=
  headPieces (fun i => roped co si (y0 C S w ws 1 i)) (fun i => roped co si (y1 C S w ws 1 i))
def vPieces : List (View.Piece (Elt F) S1x10x256x128 .bf16) :=
  headPieces (fun i => y0 C S w ws 2 i) (fun i => y1 C S w ws 2 i)

end

/-- The contents `d` are `d₀` with the stores `L` made over them. -/
def Upd {s : Shape} {e : EltTy} (v : View sig .tc .vmem s e) (d₀ : s.Idx → Elt F e) (L : List (View.Piece (Elt F) s e)) (d : s.Idx → Elt F e) : Prop :=
  ∃ f, v.read (Elt F) f = d₀ ∧ v.read (Elt F) (v.writes (Elt F) f L) = d

end Tile

end Cert.KernelIdeal.Gen

end
-- ==== Proof.KernelIdeal.ValueA.lean ====
/- The body's run at the first point: it quantises tile 0 and projects nothing. -/
module

public import proofs.«01_k».proof.Proof.KernelIdeal.Model

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4000000 in set_option sl_exec.squeezeSlice true in
/-- The body in case A, its outputs and scratch at the contents the model names (`Tile`). -/
theorem valueRun0_A (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S5120x3840 .fp8e4m3) (harg3 : arg3.IsWhole) (arg4 : Memref sig .tc .vmem S1x3840 .f32) (harg4 : arg4.IsWhole) (arg5 : Memref sig .tc .vmem S1x1x256 .i32) (harg5 : arg5.IsWhole) (arg6 : Memref sig .tc .vmem S64x256 .f32) (harg6 : arg6.IsWhole) (arg7 : Memref sig .tc .vmem S1x10x256x128 .bf16) (harg7 : arg7.IsWhole) (arg8 : Memref sig .tc .vmem S1x10x256x128 .bf16) (harg8 : arg8.IsWhole) (arg9 : Memref sig .tc .vmem S1x10x256x128 .bf16) (harg9 : arg9.IsWhole) (arg10 : Memref sig .tc .vmem S256x5120 .fp8e4m3) (harg10 : arg10.IsWhole) (arg11 : Memref sig .tc .vmem S1x1x256 .f32) (harg11 : arg11.IsWhole) (arg12 : Memref sig .tc .vmem S256x5120 .f32) (harg12 : arg12.IsWhole) (arg13 : Memref sig .tc .vmem S2x256x5120 .fp8e4m3) (harg13 : arg13.IsWhole) (arg14 : Memref sig .tc .vmem S2x256x128 .f32) (harg14 : arg14.IsWhole) (arg15 : Memref sig .tc .vmem S2x256x128 .f32) (harg15 : arg15.IsWhole) (arg16 : Memref sig .tc .vmem S2x256x128 .f32) (harg16 : arg16.IsWhole) (hc0 : cond0_0 i) (hc1 : ¬cond0_1 i) (hc2 : ¬cond0_2 i) (hc3 : ¬cond0_3 i)
    (x0 : Vec F S256x5120 .bf16) (x1 : Vec F S1x5120 .f32) (x2 : Vec F S5120x3840 .fp8e4m3) (x3 : Vec F S1x3840 .f32) (x4 : Vec F S1x1x256 .i32) (x5 : Vec F S64x256 .f32)
    (y9 : Vec F S256x5120 .fp8e4m3) (y10 : Vec F S1x1x256 .f32) (d1 : Vec F S2x256x5120 .fp8e4m3) (d2 d3 d4 : Vec F S2x256x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare d1 ∗ owns (c : Thread nD τ) arg14 fullShare d2 ∗ owns (c : Thread nD τ) arg15 fullShare d3 ∗ owns (c : Thread nD τ) arg16 fullShare d4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
              ∗ (∃ d, owns (c : Thread nD τ) arg7 fullShare d)
              ∗ (∃ d, owns (c : Thread nD τ) arg8 fullShare d)
              ∗ (∃ d, owns (c : Thread nD τ) arg9 fullShare d)
              ∗ (∃ e d, ⌜Tile.Upd arg10.view e (Tile.codePieces arg12.view x0 x1) d⌝ ∗ owns (c : Thread nD τ) arg10 fullShare d)
              ∗ (∃ e d, ⌜Tile.Upd arg11.view e (Tile.scalePieces x0 x1) d⌝ ∗ owns (c : Thread nD τ) arg11 fullShare d)
              ∗ (∃ d, owns (c : Thread nD τ) arg12 fullShare d)
              ∗ (∃ d, ⌜Tile.Upd arg13.view d1 (Tile.codePiecesS arg12.view x0 x1 0) d⌝ ∗ owns (c : Thread nD τ) arg13 fullShare d)
              ∗ (∃ d, ⌜Tile.Upd arg14.view d2 (Tile.srepPieces 0 x0 x1) d⌝ ∗ owns (c : Thread nD τ) arg14 fullShare d)
              ∗ (∃ d, ⌜Tile.Upd arg15.view d3 (Tile.cosPieces 0 x4 x5) d⌝ ∗ owns (c : Thread nD τ) arg15 fullShare d)
              ∗ (∃ d, ⌜Tile.Upd arg16.view d4 (Tile.sinPieces 0 x4 x5) d⌝ ∗ owns (c : Thread nD τ) arg16 fullShare d)) -∗ K ⟨⟩))
          ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_rmsnorm_fp8_qkv_rope_eq_skeleton]; unfold cc0_rmsnorm_fp8_qkv_rope_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%e6, %f6, -, H6⟩, ⟨%e7, %f7, -, H7⟩, ⟨%e8, %f8, -, H8⟩, ⟨%e9, %f9, -, H9⟩, ⟨%e10, %f10, -, H10⟩, ⟨%e0, %fs0, -, HS0⟩, ⟨%fs1, %hs1, HS1⟩, ⟨%fs2, %hs2, HS2⟩, ⟨%fs3, %hs3, HS3⟩, ⟨%fs4, %hs4, HS4⟩, Hk⟩
    subst hf0 hf1 hf2 hf3 hf4 hf5 hs1 hs2 hs3 hs4
    sl_exec (disch := first | sl_exact hc0 | sl_exact hc1 | sl_exact hc2 | sl_exact hc3)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists (View.read (Elt F) arg10.view f9), (View.read (Elt F) arg10.view (arg10.view.writes (Elt F) f9 (Tile.codePieces arg12.view (View.read (Elt F) arg1.view f0) (View.read (Elt F) arg2.view f1))))
      isplitr; · ipureintro; exact ⟨f9, rfl, rfl⟩
      iexists _; isplitr; swap; · iexact H9
      ipureintro; rfl
    isplitl [H10]
    · iexists (View.read (Elt F) arg11.view f10), (View.read (Elt F) arg11.view (arg11.view.writes (Elt F) f10 (Tile.scalePieces (View.read (Elt F) arg1.view f0) (View.read (Elt F) arg2.view f1))))
      isplitr; · ipureintro; exact ⟨f10, rfl, rfl⟩
      iexists _; isplitr; swap; · iexact H10
      ipureintro; rfl
    isplitl [HS0]
    · iexists _, _; isplitr; swap; · iexact HS0
      ipureintro; rfl
    isplitl [HS1]
    · iexists (View.read (Elt F) arg13.view (arg13.view.writes (Elt F) fs1 (Tile.codePiecesS arg12.view (View.read (Elt F) arg1.view f0) (View.read (Elt F) arg2.view f1) 0)))
      isplitr; · ipureintro; exact ⟨fs1, rfl, rfl⟩
      iexists _; isplitr; swap; · iexact HS1
      ipureintro; rfl
    isplitl [HS2]
    · iexists (View.read (Elt F) arg14.view (arg14.view.writes (Elt F) fs2 (Tile.srepPieces 0 (View.read (Elt F) arg1.view f0) (View.read (Elt F) arg2.view f1))))
      isplitr; · ipureintro; exact ⟨fs2, rfl, rfl⟩
      iexists _; isplitr; swap; · iexact HS2
      ipureintro; rfl
    isplitl [HS3]
    · iexists (View.read (Elt F) arg15.view (arg15.view.writes (Elt F) fs3 (Tile.cosPieces 0 (View.read (Elt F) arg5.view f4) (View.read (Elt F) arg6.view f5))))
      isplitr; · ipureintro; exact ⟨fs3, rfl, rfl⟩
      iexists _; isplitr; swap; · iexact HS3
      ipureintro; rfl
    · iexists (View.read (Elt F) arg16.view (arg16.view.writes (Elt F) fs4 (Tile.sinPieces 0 (View.read (Elt F) arg5.view f4) (View.read (Elt F) arg6.view f5))))
      isplitr; · ipureintro; exact ⟨fs4, rfl, rfl⟩
      iexists _; isplitr; swap; · iexact HS4
      ipureintro; rfl

end Cert.KernelIdeal.Gen

end
-- ==== Proof.KernelIdeal.ValueB.lean ====
/- The body's run at an even point between: it projects the tile before and quantises the next into slot 0. -/
module

public import proofs.«01_k».proof.Proof.KernelIdeal.Model

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4000000 in set_option sl_exec.squeezeSlice true in
/-- The body in case B, its outputs and scratch at the contents the model names (`Tile`). -/
theorem valueRun0_B (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S5120x3840 .fp8e4m3) (harg3 : arg3.IsWhole) (arg4 : Memref sig .tc .vmem S1x3840 .f32) (harg4 : arg4.IsWhole) (arg5 : Memref sig .tc .vmem S1x1x256 .i32) (harg5 : arg5.IsWhole) (arg6 : Memref sig .tc .vmem S64x256 .f32) (harg6 : arg6.IsWhole) (arg7 : Memref sig .tc .vmem S1x10x256x128 .bf16) (harg7 : arg7.IsWhole) (arg8 : Memref sig .tc .vmem S1x10x256x128 .bf16) (harg8 : arg8.IsWhole) (arg9 : Memref sig .tc .vmem S1x10x256x128 .bf16) (harg9 : arg9.IsWhole) (arg10 : Memref sig .tc .vmem S256x5120 .fp8e4m3) (harg10 : arg10.IsWhole) (arg11 : Memref sig .tc .vmem S1x1x256 .f32) (harg11 : arg11.IsWhole) (arg12 : Memref sig .tc .vmem S256x5120 .f32) (harg12 : arg12.IsWhole) (arg13 : Memref sig .tc .vmem S2x256x5120 .fp8e4m3) (harg13 : arg13.IsWhole) (arg14 : Memref sig .tc .vmem S2x256x128 .f32) (harg14 : arg14.IsWhole) (arg15 : Memref sig .tc .vmem S2x256x128 .f32) (harg15 : arg15.IsWhole) (arg16 : Memref sig .tc .vmem S2x256x128 .f32) (harg16 : arg16.IsWhole) (hc0 : ¬cond0_0 i) (hc1 : ¬cond0_1 i) (hc2 : cond0_2 i) (hc3 : ¬cond0_3 i)
    (x0 : Vec F S256x5120 .bf16) (x1 : Vec F S1x5120 .f32) (x2 : Vec F S5120x3840 .fp8e4m3) (x3 : Vec F S1x3840 .f32) (x4 : Vec F S1x1x256 .i32) (x5 : Vec F S64x256 .f32)
    (y9 : Vec F S256x5120 .fp8e4m3) (y10 : Vec F S1x1x256 .f32) (d1 : Vec F S2x256x5120 .fp8e4m3) (d2 d3 d4 : Vec F S2x256x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare d1 ∗ owns (c : Thread nD τ) arg14 fullShare d2 ∗ owns (c : Thread nD τ) arg15 fullShare d3 ∗ owns (c : Thread nD τ) arg16 fullShare d4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
              ∗ (∃ e d, ⌜Tile.Upd arg7.view e (Tile.qPieces (View.ld d1 (Tile.slotRectC 0)) (View.ld d2 (Tile.slotRect 0)) (View.ld d3 (Tile.slotRect 0)) (View.ld d4 (Tile.slotRect 0)) x2 x3) d⌝ ∗ owns (c : Thread nD τ) arg7 fullShare d)
              ∗ (∃ e d, ⌜Tile.Upd arg8.view e (Tile.kPieces (View.ld d1 (Tile.slotRectC 0)) (View.ld d2 (Tile.slotRect 0)) (View.ld d3 (Tile.slotRect 0)) (View.ld d4 (Tile.slotRect 0)) x2 x3) d⌝ ∗ owns (c : Thread nD τ) arg8 fullShare d)
              ∗ (∃ e d, ⌜Tile.Upd arg9.view e (Tile.vPieces (View.ld d1 (Tile.slotRectC 0)) (View.ld d2 (Tile.slotRect 0)) x2 x3) d⌝ ∗ owns (c : Thread nD τ) arg9 fullShare d)
              ∗ (∃ e d, ⌜Tile.Upd arg10.view e (Tile.codePieces arg12.view x0 x1) d⌝ ∗ owns (c : Thread nD τ) arg10 fullShare d)
              ∗ (∃ e d, ⌜Tile.Upd arg11.view e (Tile.scalePieces x0 x1) d⌝ ∗ owns (c : Thread nD τ) arg11 fullShare d)
              ∗ (∃ d, owns (c : Thread nD τ) arg12 fullShare d)
              ∗ (∃ d, ⌜Tile.Upd arg13.view d1 (Tile.codePiecesS arg12.view x0 x1 1) d⌝ ∗ owns (c : Thread nD τ) arg13 fullShare d)
              ∗ (∃ d, ⌜Tile.Upd arg14.view d2 (Tile.srepPieces 1 x0 x1) d⌝ ∗ owns (c : Thread nD τ) arg14 fullShare d)
              ∗ (∃ d, ⌜Tile.Upd arg15.view d3 (Tile.cosPieces 1 x4 x5) d⌝ ∗ owns (c : Thread nD τ) arg15 fullShare d)
              ∗ (∃ d, ⌜Tile.Upd arg16.view d4 (Tile.sinPieces 1 x4 x5) d⌝ ∗ owns (c : Thread nD τ) arg16 fullShare d)) -∗ K ⟨⟩))
          ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_rmsnorm_fp8_qkv_rope_eq_skeleton]; unfold cc0_rmsnorm_fp8_qkv_rope_skel
    simp only [k0_part182_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%e6, %f6, -, H6⟩, ⟨%e7, %f7, -, H7⟩, ⟨%e8, %f8, -, H8⟩, ⟨%e9, %f9, -, H9⟩, ⟨%e10, %f10, -, H10⟩, ⟨%e0, %fs0, -, HS0⟩, ⟨%fs1, %hs1, HS1⟩, ⟨%fs2, %hs2, HS2⟩, ⟨%fs3, %hs3, HS3⟩, ⟨%fs4, %hs4, HS4⟩, Hk⟩
    subst hf0 hf1 hf2 hf3 hf4 hf5 hs1 hs2 hs3 hs4
    sl_exec (disch := first | sl_exact hc0 | sl_exact hc1 | sl_exact hc2 | sl_exact hc3)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists (View.read (Elt F) arg7.view f6), (View.read (Elt F) arg7.view (arg7.view.writes (Elt F) f6 (Tile.qPieces (View.ld (View.read (Elt F) arg13.view fs1) (Tile.slotRectC 0)) (View.ld (View.read (Elt F) arg14.view fs2) (Tile.slotRect 0)) (View.ld (View.read (Elt F) arg15.view fs3) (Tile.slotRect 0)) (View.ld (View.read (Elt F) arg16.view fs4) (Tile.slotRect 0)) (View.read (Elt F) arg3.view f2) (View.read (Elt F) arg4.view f3))))
      isplitr; · ipureintro; exact ⟨f6, rfl, rfl⟩
      iexists _; isplitr; swap; · iexact H6
      ipureintro; rfl
    isplitl [H7]
    · iexists (View.read (Elt F) arg8.view f7), (View.read (Elt F) arg8.view (arg8.view.writes (Elt F) f7 (Tile.kPieces (View.ld (View.read (Elt F) arg13.view fs1) (Tile.slotRectC 0)) (View.ld (View.read (Elt F) arg14.view fs2) (Tile.slotRect 0)) (View.ld (View.read (Elt F) arg15.view fs3) (Tile.slotRect 0)) (View.ld (View.read (Elt F) arg16.view fs4) (Tile.slotRect 0)) (View.read (Elt F) arg3.view f2) (View.read (Elt F) arg4.view f3))))
      isplitr; · ipureintro; exact ⟨f7, rfl, rfl⟩
      iexists _; isplitr; swap; · iexact H7
      ipureintro; rfl
    isplitl [H8]
    · iexists (View.read (Elt F) arg9.view f8), (View.read (Elt F) arg9.view (arg9.view.writes (Elt F) f8 (Tile.vPieces (View.ld (View.read (Elt F) arg13.view fs1) (Tile.slotRectC 0)) (View.ld (View.read (Elt F) arg14.view fs2) (Tile.slotRect 0)) (View.read (Elt F) arg3.view f2) (View.read (Elt F) arg4.view f3))))
      isplitr; · ipureintro; exact ⟨f8, rfl, rfl⟩
      iexists _; isplitr; swap; · iexact H8
      ipureintro; rfl
    isplitl [H9]
    · iexists (View.read (Elt F) arg10.view f9), (View.read (Elt F) arg10.view (arg10.view.writes (Elt F) f9 (Tile.codePieces arg12.view (View.read (Elt F) arg1.view f0) (View.read (Elt F) arg2.view f1))))
      isplitr; · ipureintro; exact ⟨f9, rfl, rfl⟩
      iexists _; isplitr; swap; · iexact H9
      ipureintro; rfl
    isplitl [H10]
    · iexists (View.read (Elt F) arg11.view f10), (View.read (Elt F) arg11.view (arg11.view.writes (Elt F) f10 (Tile.scalePieces (View.read (Elt F) arg1.view f0) (View.read (Elt F) arg2.view f1))))
      isplitr; · ipureintro; exact ⟨f10, rfl, rfl⟩
      iexists _; isplitr; swap; · iexact H10
      ipureintro; rfl
    isplitl [HS0]
    · iexists _, _; isplitr; swap; · iexact HS0
      ipureintro; rfl
    isplitl [HS1]
    · iexists (View.read (Elt F) arg13.view (arg13.view.writes (Elt F) fs1 (Tile.codePiecesS arg12.view (View.read (Elt F) arg1.view f0) (View.read (Elt F) arg2.view f1) 1)))
      isplitr; · ipureintro; exact ⟨fs1, rfl, rfl⟩
      iexists _; isplitr; swap; · iexact HS1
      ipureintro; rfl
    isplitl [HS2]
    · iexists (View.read (Elt F) arg14.view (arg14.view.writes (Elt F) fs2 (Tile.srepPieces 1 (View.read (Elt F) arg1.view f0) (View.read (Elt F) arg2.view f1))))
      isplitr; · ipureintro; exact ⟨fs2, rfl, rfl⟩
      iexists _; isplitr; swap; · iexact HS2
      ipureintro; rfl
    isplitl [HS3]
    · iexists (View.read (Elt F) arg15.view (arg15.view.writes (Elt F) fs3 (Tile.cosPieces 1 (View.read (Elt F) arg5.view f4) (View.read (Elt F) arg6.view f5))))
      isplitr; · ipureintro; exact ⟨fs3, rfl, rfl⟩
      iexists _; isplitr; swap; · iexact HS3
      ipureintro; rfl
    · iexists (View.read (Elt F) arg16.view (arg16.view.writes (Elt F) fs4 (Tile.sinPieces 1 (View.read (Elt F) arg5.view f4) (View.read (Elt F) arg6.view f5))))
      isplitr; · ipureintro; exact ⟨fs4, rfl, rfl⟩
      iexists _; isplitr; swap; · iexact HS4
      ipureintro; rfl

end Cert.KernelIdeal.Gen

end
-- ==== Proof.KernelIdeal.ValueC.lean ====
/- The body's run at an odd point between: it projects the tile before and quantises the next into slot 1. -/
module

public import proofs.«01_k».proof.Proof.KernelIdeal.Model

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4000000 in set_option sl_exec.squeezeSlice true in
/-- The body in case C, its outputs and scratch at the contents the model names (`Tile`). -/
theorem valueRun0_C (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S5120x3840 .fp8e4m3) (harg3 : arg3.IsWhole) (arg4 : Memref sig .tc .vmem S1x3840 .f32) (harg4 : arg4.IsWhole) (arg5 : Memref sig .tc .vmem S1x1x256 .i32) (harg5 : arg5.IsWhole) (arg6 : Memref sig .tc .vmem S64x256 .f32) (harg6 : arg6.IsWhole) (arg7 : Memref sig .tc .vmem S1x10x256x128 .bf16) (harg7 : arg7.IsWhole) (arg8 : Memref sig .tc .vmem S1x10x256x128 .bf16) (harg8 : arg8.IsWhole) (arg9 : Memref sig .tc .vmem S1x10x256x128 .bf16) (harg9 : arg9.IsWhole) (arg10 : Memref sig .tc .vmem S256x5120 .fp8e4m3) (harg10 : arg10.IsWhole) (arg11 : Memref sig .tc .vmem S1x1x256 .f32) (harg11 : arg11.IsWhole) (arg12 : Memref sig .tc .vmem S256x5120 .f32) (harg12 : arg12.IsWhole) (arg13 : Memref sig .tc .vmem S2x256x5120 .fp8e4m3) (harg13 : arg13.IsWhole) (arg14 : Memref sig .tc .vmem S2x256x128 .f32) (harg14 : arg14.IsWhole) (arg15 : Memref sig .tc .vmem S2x256x128 .f32) (harg15 : arg15.IsWhole) (arg16 : Memref sig .tc .vmem S2x256x128 .f32) (harg16 : arg16.IsWhole) (hc0 : ¬cond0_0 i) (hc1 : cond0_1 i) (hc2 : ¬cond0_2 i) (hc3 : ¬cond0_3 i)
    (x0 : Vec F S256x5120 .bf16) (x1 : Vec F S1x5120 .f32) (x2 : Vec F S5120x3840 .fp8e4m3) (x3 : Vec F S1x3840 .f32) (x4 : Vec F S1x1x256 .i32) (x5 : Vec F S64x256 .f32)
    (y9 : Vec F S256x5120 .fp8e4m3) (y10 : Vec F S1x1x256 .f32) (d1 : Vec F S2x256x5120 .fp8e4m3) (d2 d3 d4 : Vec F S2x256x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare d1 ∗ owns (c : Thread nD τ) arg14 fullShare d2 ∗ owns (c : Thread nD τ) arg15 fullShare d3 ∗ owns (c : Thread nD τ) arg16 fullShare d4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
              ∗ (∃ e d, ⌜Tile.Upd arg7.view e (Tile.qPieces (View.ld d1 (Tile.slotRectC 1)) (View.ld d2 (Tile.slotRect 1)) (View.ld d3 (Tile.slotRect 1)) (View.ld d4 (Tile.slotRect 1)) x2 x3) d⌝ ∗ owns (c : Thread nD τ) arg7 fullShare d)
              ∗ (∃ e d, ⌜Tile.Upd arg8.view e (Tile.kPieces (View.ld d1 (Tile.slotRectC 1)) (View.ld d2 (Tile.slotRect 1)) (View.ld d3 (Tile.slotRect 1)) (View.ld d4 (Tile.slotRect 1)) x2 x3) d⌝ ∗ owns (c : Thread nD τ) arg8 fullShare d)
              ∗ (∃ e d, ⌜Tile.Upd arg9.view e (Tile.vPieces (View.ld d1 (Tile.slotRectC 1)) (View.ld d2 (Tile.slotRect 1)) x2 x3) d⌝ ∗ owns (c : Thread nD τ) arg9 fullShare d)
              ∗ (∃ e d, ⌜Tile.Upd arg10.view e (Tile.codePieces arg12.view x0 x1) d⌝ ∗ owns (c : Thread nD τ) arg10 fullShare d)
              ∗ (∃ e d, ⌜Tile.Upd arg11.view e (Tile.scalePieces x0 x1) d⌝ ∗ owns (c : Thread nD τ) arg11 fullShare d)
              ∗ (∃ d, owns (c : Thread nD τ) arg12 fullShare d)
              ∗ (∃ d, ⌜Tile.Upd arg13.view d1 (Tile.codePiecesS arg12.view x0 x1 0) d⌝ ∗ owns (c : Thread nD τ) arg13 fullShare d)
              ∗ (∃ d, ⌜Tile.Upd arg14.view d2 (Tile.srepPieces 0 x0 x1) d⌝ ∗ owns (c : Thread nD τ) arg14 fullShare d)
              ∗ (∃ d, ⌜Tile.Upd arg15.view d3 (Tile.cosPieces 0 x4 x5) d⌝ ∗ owns (c : Thread nD τ) arg15 fullShare d)
              ∗ (∃ d, ⌜Tile.Upd arg16.view d4 (Tile.sinPieces 0 x4 x5) d⌝ ∗ owns (c : Thread nD τ) arg16 fullShare d)) -∗ K ⟨⟩))
          ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_rmsnorm_fp8_qkv_rope_eq_skeleton]; unfold cc0_rmsnorm_fp8_qkv_rope_skel
    simp only [k0_part115_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%e6, %f6, -, H6⟩, ⟨%e7, %f7, -, H7⟩, ⟨%e8, %f8, -, H8⟩, ⟨%e9, %f9, -, H9⟩, ⟨%e10, %f10, -, H10⟩, ⟨%e0, %fs0, -, HS0⟩, ⟨%fs1, %hs1, HS1⟩, ⟨%fs2, %hs2, HS2⟩, ⟨%fs3, %hs3, HS3⟩, ⟨%fs4, %hs4, HS4⟩, Hk⟩
    subst hf0 hf1 hf2 hf3 hf4 hf5 hs1 hs2 hs3 hs4
    sl_exec (disch := first | sl_exact hc0 | sl_exact hc1 | sl_exact hc2 | sl_exact hc3)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists (View.read (Elt F) arg7.view f6), (View.read (Elt F) arg7.view (arg7.view.writes (Elt F) f6 (Tile.qPieces (View.ld (View.read (Elt F) arg13.view fs1) (Tile.slotRectC 1)) (View.ld (View.read (Elt F) arg14.view fs2) (Tile.slotRect 1)) (View.ld (View.read (Elt F) arg15.view fs3) (Tile.slotRect 1)) (View.ld (View.read (Elt F) arg16.view fs4) (Tile.slotRect 1)) (View.read (Elt F) arg3.view f2) (View.read (Elt F) arg4.view f3))))
      isplitr; · ipureintro; exact ⟨f6, rfl, rfl⟩
      iexists _; isplitr; swap; · iexact H6
      ipureintro; rfl
    isplitl [H7]
    · iexists (View.read (Elt F) arg8.view f7), (View.read (Elt F) arg8.view (arg8.view.writes (Elt F) f7 (Tile.kPieces (View.ld (View.read (Elt F) arg13.view fs1) (Tile.slotRectC 1)) (View.ld (View.read (Elt F) arg14.view fs2) (Tile.slotRect 1)) (View.ld (View.read (Elt F) arg15.view fs3) (Tile.slotRect 1)) (View.ld (View.read (Elt F) arg16.view fs4) (Tile.slotRect 1)) (View.read (Elt F) arg3.view f2) (View.read (Elt F) arg4.view f3))))
      isplitr; · ipureintro; exact ⟨f7, rfl, rfl⟩
      iexists _; isplitr; swap; · iexact H7
      ipureintro; rfl
    isplitl [H8]
    · iexists (View.read (Elt F) arg9.view f8), (View.read (Elt F) arg9.view (arg9.view.writes (Elt F) f8 (Tile.vPieces (View.ld (View.read (Elt F) arg13.view fs1) (Tile.slotRectC 1)) (View.ld (View.read (Elt F) arg14.view fs2) (Tile.slotRect 1)) (View.read (Elt F) arg3.view f2) (View.read (Elt F) arg4.view f3))))
      isplitr; · ipureintro; exact ⟨f8, rfl, rfl⟩
      iexists _; isplitr; swap; · iexact H8
      ipureintro; rfl
    isplitl [H9]
    · iexists (View.read (Elt F) arg10.view f9), (View.read (Elt F) arg10.view (arg10.view.writes (Elt F) f9 (Tile.codePieces arg12.view (View.read (Elt F) arg1.view f0) (View.read (Elt F) arg2.view f1))))
      isplitr; · ipureintro; exact ⟨f9, rfl, rfl⟩
      iexists _; isplitr; swap; · iexact H9
      ipureintro; rfl
    isplitl [H10]
    · iexists (View.read (Elt F) arg11.view f10), (View.read (Elt F) arg11.view (arg11.view.writes (Elt F) f10 (Tile.scalePieces (View.read (Elt F) arg1.view f0) (View.read (Elt F) arg2.view f1))))
      isplitr; · ipureintro; exact ⟨f10, rfl, rfl⟩
      iexists _; isplitr; swap; · iexact H10
      ipureintro; rfl
    isplitl [HS0]
    · iexists _, _; isplitr; swap; · iexact HS0
      ipureintro; rfl
    isplitl [HS1]
    · iexists (View.read (Elt F) arg13.view (arg13.view.writes (Elt F) fs1 (Tile.codePiecesS arg12.view (View.read (Elt F) arg1.view f0) (View.read (Elt F) arg2.view f1) 0)))
      isplitr; · ipureintro; exact ⟨fs1, rfl, rfl⟩
      iexists _; isplitr; swap; · iexact HS1
      ipureintro; rfl
    isplitl [HS2]
    · iexists (View.read (Elt F) arg14.view (arg14.view.writes (Elt F) fs2 (Tile.srepPieces 0 (View.read (Elt F) arg1.view f0) (View.read (Elt F) arg2.view f1))))
      isplitr; · ipureintro; exact ⟨fs2, rfl, rfl⟩
      iexists _; isplitr; swap; · iexact HS2
      ipureintro; rfl
    isplitl [HS3]
    · iexists (View.read (Elt F) arg15.view (arg15.view.writes (Elt F) fs3 (Tile.cosPieces 0 (View.read (Elt F) arg5.view f4) (View.read (Elt F) arg6.view f5))))
      isplitr; · ipureintro; exact ⟨fs3, rfl, rfl⟩
      iexists _; isplitr; swap; · iexact HS3
      ipureintro; rfl
    · iexists (View.read (Elt F) arg16.view (arg16.view.writes (Elt F) fs4 (Tile.sinPieces 0 (View.read (Elt F) arg5.view f4) (View.read (Elt F) arg6.view f5))))
      isplitr; · ipureintro; exact ⟨fs4, rfl, rfl⟩
      iexists _; isplitr; swap; · iexact HS4
      ipureintro; rfl

end Cert.KernelIdeal.Gen

end
-- ==== Proof.KernelIdeal.ValueD.lean ====
/- The body's run at the last point: it projects the last tile and quantises nothing. -/
module

public import proofs.«01_k».proof.Proof.KernelIdeal.Model

@[expose] public section

-- membership in a rectangle of production extents (`View.cover_of_tiled`): the elaborator's structural look
-- recurses once per coordinate of the long axes
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 4000000 in
/-- The body in case D, its outputs and scratch at the contents the model names (`Tile`). -/
theorem valueRun0_D (c : Dev nD) (i : grid0.Coords) (arg1 : Memref sig .tc .vmem S256x5120 .bf16) (harg1 : arg1.IsWhole) (arg2 : Memref sig .tc .vmem S1x5120 .f32) (harg2 : arg2.IsWhole) (arg3 : Memref sig .tc .vmem S5120x3840 .fp8e4m3) (harg3 : arg3.IsWhole) (arg4 : Memref sig .tc .vmem S1x3840 .f32) (harg4 : arg4.IsWhole) (arg5 : Memref sig .tc .vmem S1x1x256 .i32) (harg5 : arg5.IsWhole) (arg6 : Memref sig .tc .vmem S64x256 .f32) (harg6 : arg6.IsWhole) (arg7 : Memref sig .tc .vmem S1x10x256x128 .bf16) (harg7 : arg7.IsWhole) (arg8 : Memref sig .tc .vmem S1x10x256x128 .bf16) (harg8 : arg8.IsWhole) (arg9 : Memref sig .tc .vmem S1x10x256x128 .bf16) (harg9 : arg9.IsWhole) (arg10 : Memref sig .tc .vmem S256x5120 .fp8e4m3) (harg10 : arg10.IsWhole) (arg11 : Memref sig .tc .vmem S1x1x256 .f32) (harg11 : arg11.IsWhole) (arg12 : Memref sig .tc .vmem S256x5120 .f32) (harg12 : arg12.IsWhole) (arg13 : Memref sig .tc .vmem S2x256x5120 .fp8e4m3) (harg13 : arg13.IsWhole) (arg14 : Memref sig .tc .vmem S2x256x128 .f32) (harg14 : arg14.IsWhole) (arg15 : Memref sig .tc .vmem S2x256x128 .f32) (harg15 : arg15.IsWhole) (arg16 : Memref sig .tc .vmem S2x256x128 .f32) (harg16 : arg16.IsWhole) (hc0 : ¬cond0_0 i) (hc1 : ¬cond0_1 i) (hc2 : ¬cond0_2 i) (hc3 : cond0_3 i)
    (x0 : Vec F S256x5120 .bf16) (x1 : Vec F S1x5120 .f32) (x2 : Vec F S5120x3840 .fp8e4m3) (x3 : Vec F S1x3840 .f32) (x4 : Vec F S1x1x256 .i32) (x5 : Vec F S64x256 .f32)
    (y9 : Vec F S256x5120 .fp8e4m3) (y10 : Vec F S1x1x256 .f32) (d1 : Vec F S2x256x5120 .fp8e4m3) (d2 d3 d4 : Vec F S2x256x128 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare y9 ∗ owns (c : Thread nD τ) arg11 fullShare y10 ∗ (∃ d, owns (c : Thread nD τ) arg12 fullShare d) ∗ owns (c : Thread nD τ) arg13 fullShare d1 ∗ owns (c : Thread nD τ) arg14 fullShare d2 ∗ owns (c : Thread nD τ) arg15 fullShare d3 ∗ owns (c : Thread nD τ) arg16 fullShare d4
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5
              ∗ (∃ e d, ⌜Tile.Upd arg7.view e (Tile.qPieces (View.ld d1 (Tile.slotRectC 1)) (View.ld d2 (Tile.slotRect 1)) (View.ld d3 (Tile.slotRect 1)) (View.ld d4 (Tile.slotRect 1)) x2 x3) d⌝ ∗ owns (c : Thread nD τ) arg7 fullShare d)
              ∗ (∃ e d, ⌜Tile.Upd arg8.view e (Tile.kPieces (View.ld d1 (Tile.slotRectC 1)) (View.ld d2 (Tile.slotRect 1)) (View.ld d3 (Tile.slotRect 1)) (View.ld d4 (Tile.slotRect 1)) x2 x3) d⌝ ∗ owns (c : Thread nD τ) arg8 fullShare d)
              ∗ (∃ e d, ⌜Tile.Upd arg9.view e (Tile.vPieces (View.ld d1 (Tile.slotRectC 1)) (View.ld d2 (Tile.slotRect 1)) x2 x3) d⌝ ∗ owns (c : Thread nD τ) arg9 fullShare d)
              ∗ owns (c : Thread nD τ) arg10 fullShare y9
              ∗ owns (c : Thread nD τ) arg11 fullShare y10
              ∗ (∃ d, owns (c : Thread nD τ) arg12 fullShare d)
              ∗ owns (c : Thread nD τ) arg13 fullShare d1
              ∗ owns (c : Thread nD τ) arg14 fullShare d2
              ∗ owns (c : Thread nD τ) arg15 fullShare d3
              ∗ owns (c : Thread nD τ) arg16 fullShare d4) -∗ K ⟨⟩))
          ⊢ wp frame (wpE (defs₀ (F := F)) Variants.none c none) E (cc0_rmsnorm_fp8_qkv_rope i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16) K := by
    intro E K
    simp only [cc0_rmsnorm_fp8_qkv_rope_eq_skeleton]; unfold cc0_rmsnorm_fp8_qkv_rope_skel
    rw [k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%e6, %f6, -, H6⟩, ⟨%e7, %f7, -, H7⟩, ⟨%e8, %f8, -, H8⟩, ⟨%f9, %hf9, H9⟩, ⟨%f10, %hf10, H10⟩, ⟨%e0, %fs0, -, HS0⟩, ⟨%fs1, %hs1, HS1⟩, ⟨%fs2, %hs2, HS2⟩, ⟨%fs3, %hs3, HS3⟩, ⟨%fs4, %hs4, HS4⟩, Hk⟩
    subst hf0 hf1 hf2 hf3 hf4 hf5 hs1 hs2 hs3 hs4 hf9 hf10
    sl_exec (disch := first | sl_exact hc0 | sl_exact hc1 | sl_exact hc2 | sl_exact hc3)
    sl_step
    iapply Hk
    isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    isplitl [H6]
    · iexists (View.read (Elt F) arg7.view f6), (View.read (Elt F) arg7.view (arg7.view.writes (Elt F) f6 (Tile.qPieces (View.ld (View.read (Elt F) arg13.view fs1) (Tile.slotRectC 1)) (View.ld (View.read (Elt F) arg14.view fs2) (Tile.slotRect 1)) (View.ld (View.read (Elt F) arg15.view fs3) (Tile.slotRect 1)) (View.ld (View.read (Elt F) arg16.view fs4) (Tile.slotRect 1)) (View.read (Elt F) arg3.view f2) (View.read (Elt F) arg4.view f3))))
      isplitr; · ipureintro; exact ⟨f6, rfl, rfl⟩
      iexists _; isplitr; swap; · iexact H6
      ipureintro; rfl
    isplitl [H7]
    · iexists (View.read (Elt F) arg8.view f7), (View.read (Elt F) arg8.view (arg8.view.writes (Elt F) f7 (Tile.kPieces (View.ld (View.read (Elt F) arg13.view fs1) (Tile.slotRectC 1)) (View.ld (View.read (Elt F) arg14.view fs2) (Tile.slotRect 1)) (View.ld (View.read (Elt F) arg15.view fs3) (Tile.slotRect 1)) (View.ld (View.read (Elt F) arg16.view fs4) (Tile.slotRect 1)) (View.read (Elt F) arg3.view f2) (View.read (Elt F) arg4.view f3))))
      isplitr; · ipureintro; exact ⟨f7, rfl, rfl⟩
      iexists _; isplitr; swap; · iexact H7
      ipureintro; rfl
    isplitl [H8]
    · iexists (View.read (Elt F) arg9.view f8), (View.read (Elt F) arg9.view (arg9.view.writes (Elt F) f8 (Tile.vPieces (View.ld (View.read (Elt F) arg13.view fs1) (Tile.slotRectC 1)) (View.ld (View.read (Elt F) arg14.view fs2) (Tile.slotRect 1)) (View.read (Elt F) arg3.view f2) (View.read (Elt F) arg4.view f3))))
      isplitr; · ipureintro; exact ⟨f8, rfl, rfl⟩
      iexists _; isplitr; swap; · iexact H8
      ipureintro; rfl
    isplitl [H9]
    · iexists _; isplitr; · ipureintro; rfl
      iexact H9
    isplitl [H10]
    · iexists _; isplitr; · ipureintro; rfl
      iexact H10
    isplitl [HS0]
    · iexists _, _; isplitr; swap; · iexact HS0
      ipureintro; rfl
    isplitl [HS1]
    · iexists _; isplitr; · ipureintro; rfl
      iexact HS1
    isplitl [HS2]
    · iexists _; isplitr; · ipureintro; rfl
      iexact HS2
    isplitl [HS3]
    · iexists _; isplitr; · ipureintro; rfl
      iexact HS3
    · iexists _; isplitr; · ipureintro; rfl
      iexact HS4

end Cert.KernelIdeal.Gen

end
-- ==== Proof.Spec.lean ====
/- What both programs compute, over the extended reals, one row of tokens at a time: the normalised row, its largest
   magnitude, the power of two that scales it, its codes, and the projection with the rotation of the heads. -/
module

public import Idealize.ShloMosaic.Lib.Pointwise

@[expose] public section

noncomputable section

namespace Cert.Spec

open Idealize.ShloMosaic

/-- The reciprocal root of a row's mean square. -/
def rsq (x : Fin 5120 → EReal) : EReal :=
  Ideal.rsqrt ((∑ c, x c * x c) * ((1 / 5120 : ℝ) : EReal) + Ideal.ofBits .f32 0x358637BD#32)

/-- The normalised row. -/
def hrow (x g : Fin 5120 → EReal) (c : Fin 5120) : EReal := x c * rsq x * g c

/-- Its largest magnitude. -/
def amx (x g : Fin 5120 → EReal) : EReal :=
  Finset.univ.fold max (Ideal.ofBits .f32 0xFF800000#32) fun c => max (hrow x g c) (-hrow x g c)

/-- The exponent of the scale of a row of largest magnitude `m`. -/
def expo (m : EReal) : EReal :=
  if Ideal.ofBits .f32 0x00800000#32 ≤ m * Ideal.ofBits .f32 0x3B124925#32 ∧ m * Ideal.ofBits .f32 0x3B124925#32 < Ideal.ofBits .f32 0x7E800000#32 then
    Ideal.liftRound Int.floor (Ideal.div (Ideal.log (m * Ideal.ofBits .f32 0x3B124925#32)) (Ideal.log (Ideal.ofBits .f32 0x40000000#32))) + Ideal.ofBits .f32 0x3F800000#32
  else 0

/-- The scale and its inverse. -/
def scOf (m : EReal) : EReal := Ideal.pow (Ideal.ofBits .f32 0x40000000#32) (expo m)
def ivOf (m : EReal) : EReal := Ideal.pow (Ideal.ofBits .f32 0x40000000#32) (-expo m)

/-- The codes of a row. -/
def code (x g : Fin 5120 → EReal) (c : Fin 5120) : EReal :=
  min (Ideal.ofBits .f32 0x43E00000#32) (max (Ideal.ofBits .f32 0xC3E00000#32) (hrow x g c * ivOf (amx x g)))

/-- One column of the projection of a row. -/
def proj (x g w : Fin 5120 → EReal) (s : EReal) : EReal := (∑ c, code x g c * w c) * scOf (amx x g) * s

/-- The rotation of a head `y` at a lane: the first half against the second. -/
def rope (y : Fin 128 → EReal) (a : Fin 64 → EReal) (k : Fin 128) : EReal :=
  if h : k.val < 64 then y k * Ideal.cos (a ⟨k.val, h⟩) - y ⟨k.val + 64, by omega⟩ * Ideal.sin (a ⟨k.val, h⟩)
  else y k * Ideal.cos (a ⟨k.val - 64, by omega⟩) + y ⟨k.val - 64, by omega⟩ * Ideal.sin (a ⟨k.val - 64, by omega⟩)

end Cert.Spec

end
-- ==== Proof.KernelIdeal.Stages.lean ====
/- The stages of one tile (`Tile`) read at an index, over the extended reals: each is its row's function of `Spec`. -/
module

public import proofs.«01_k».proof.Proof.KernelIdeal.Model
public import proofs.«01_k».proof.Proof.Spec
public import Idealize.ShloMosaic.Lib.Pointwise
public import Idealize.ShloMosaic.Lib.KernelVsHost.SublaneAllReduce

@[expose] public section

set_option maxRecDepth 16384

noncomputable section

namespace Cert.KernelIdeal.Gen.Tile

open Idealize.ShloMosaic Idealize.ShloMosaic.TcCoe Cert

/-! ## The sum of squares -/

theorem half0_xld (x : Vec Ideal S256x5120 .bf16) (b : ℕ) (hb : b ≤ 128) (j : Fin 20) (p k : Fin 128) :
    half0 (xld x b hb j) (ix2 p k) = x (ix2 ⟨b + p.val, by omega⟩ ⟨256 * j.val + k.val, by omega⟩) := by
  pointwise [half0, xld]

theorem half1_xld (x : Vec Ideal S256x5120 .bf16) (b : ℕ) (hb : b ≤ 128) (j : Fin 20) (p k : Fin 128) :
    half1 (xld x b hb j) (ix2 p k) = x (ix2 ⟨b + p.val, by omega⟩ ⟨256 * j.val + (128 + k.val), by omega⟩) := by
  pointwise [half1, xld]

/-- The square at a column of a row. -/
def sqAt (x : Vec Ideal S256x5120 .bf16) (r : Fin 256) (c : Fin 5120) : EReal := x (ix2 r c) * x (ix2 r c)

theorem rollAdd_eq (n : BitVec 32) (q : FVec Ideal S8x128 .f32) :
    rollAdd n q = fun i => q i + dynamicRotate 0 n none q rotates_S8x128_d0 i := funext fun i => by
  show dynamicRotate 0 n none q rotates_S8x128_d0 i + q i = _
  rw [add_comm]

theorem rolled_apply (q : FVec Ideal S8x128 .f32) (r : Fin 8) (t : Fin 128) :
    rollAdd 1#32 (rollAdd 2#32 (rollAdd 4#32 q)) (ix2 r t) = ∑ k : Fin 8, q (ix2 k t) := by
  simp only [rollAdd_eq]
  refine (SublaneAllReduce.sublaneAllReduce_apply (fun a b : EReal => a + b) rotates_S8x128_d0 q r t).trans ?_
  simp only [SublaneAllReduce.combine8, Fin.sum_univ_eight]
  ac_rfl

theorem groups_apply (v : FVec Ideal S128x128 .f32) (r : Fin 8) (t : Fin 128) :
    groups v (ix2 r t) = ∑ g : Fin 16, v (ix2 ⟨8 * g.val + r.val, by omega⟩ t) := by
  pointwise [groups]
  simp only [Fin.sum_univ_succ, Fin.sum_univ_zero, add_zero, ← add_assoc]
  iterate 15 refine congrArg₂ (fun a b : EReal => a + b) ?_ ?_
  all_goals exact congrArg (fun n => v (ix2 n t)) (Fin.ext (by simp only [Fin.val_succ, Fin.val_zero] <;> omega))

theorem chunkSum_apply (a b c d : Vec Ideal S128x256 .bf16) (r : Fin 8) (t : Fin 128) :
    chunkSum a b c d (ix2 r t) = ∑ k : Fin 128, squares a b c d (ix2 t k) := by
  unfold chunkSum
  rw [rolled_apply]
  simp only [groups_apply]
  rw [Finset.sum_comm, Fin.sum_univ_tiles (N := 128) 16 8 rfl]
  refine Finset.sum_congr rfl fun g _ => Finset.sum_congr rfl fun k _ => ?_
  pointwise
  congr 2
  apply Fin.ext
  show 8 * g.val + k.val = _
  simp only; try omega

theorem add_comm8 (a b c d e f g h : EReal) : h + (g + (f + (e + (d + (c + (b + a)))))) = a + b + c + d + e + f + g + h := by ac_rfl

theorem squares_xld (x : Vec Ideal S256x5120 .bf16) (b : ℕ) (hb : b ≤ 128) (q : ℕ) (hq : q < 5) (p k : Fin 128) :
    squares (xld x b hb ⟨4 * q, by omega⟩) (xld x b hb ⟨4 * q + 1, by omega⟩) (xld x b hb ⟨4 * q + 2, by omega⟩) (xld x b hb ⟨4 * q + 3, by omega⟩) (ix2 p k)
      = ∑ i : Fin 8, sqAt x ⟨b + p.val, by omega⟩ ⟨1024 * q + 128 * i.val + k.val, by omega⟩ := by
  pointwise [squares, addSq]
  simp only [half0_xld, half1_xld, Fin.sum_univ_eight]
  have e : ∀ (n m : ℕ) (hn : n < 5120) (hm : m < 5120), n = m → x (ix2 ⟨b + p.val, by omega⟩ ⟨n, hn⟩) * x (ix2 ⟨b + p.val, by omega⟩ ⟨n, hn⟩)
      = sqAt x ⟨b + p.val, by omega⟩ ⟨m, hm⟩ := fun n m hn hm h => by subst h; rfl
  rw [e (256 * (4 * q) + k.val) (1024 * q + 128 * (0 : Fin 8).val + k.val) _ (by omega) (by simp only [Fin.val_zero]; omega),
    e (256 * (4 * q) + (128 + k.val)) (1024 * q + 128 * (1 : Fin 8).val + k.val) _ (by omega) (by show _ = 1024 * q + 128 * 1 + k.val; omega),
    e (256 * (4 * q + 1) + k.val) (1024 * q + 128 * (2 : Fin 8).val + k.val) _ (by omega) (by show _ = 1024 * q + 128 * 2 + k.val; omega),
    e (256 * (4 * q + 1) + (128 + k.val)) (1024 * q + 128 * (3 : Fin 8).val + k.val) _ (by omega) (by show _ = 1024 * q + 128 * 3 + k.val; omega),
    e (256 * (4 * q + 2) + k.val) (1024 * q + 128 * (4 : Fin 8).val + k.val) _ (by omega) (by show _ = 1024 * q + 128 * 4 + k.val; omega),
    e (256 * (4 * q + 2) + (128 + k.val)) (1024 * q + 128 * (5 : Fin 8).val + k.val) _ (by omega) (by show _ = 1024 * q + 128 * 5 + k.val; omega),
    e (256 * (4 * q + 3) + k.val) (1024 * q + 128 * (6 : Fin 8).val + k.val) _ (by omega) (by show _ = 1024 * q + 128 * 6 + k.val; omega),
    e (256 * (4 * q + 3) + (128 + k.val)) (1024 * q + 128 * (7 : Fin 8).val + k.val) _ (by omega) (by show _ = 1024 * q + 128 * 7 + k.val; omega)]
  exact add_comm8 _ _ _ _ _ _ _ _

theorem add_left_comm5 (a b c d e : EReal) : e + (d + (c + (b + a))) = a + b + c + d + e := by ac_rfl

theorem total_apply (x : Vec Ideal S256x5120 .bf16) (b : ℕ) (hb : b ≤ 128) (r : Fin 8) (t : Fin 128) :
    total (xld x b hb) (ix2 r t) = ∑ c : Fin 5120, sqAt x ⟨b + t.val, by omega⟩ c := by
  have h : total (xld x b hb) (ix2 r t) = ∑ q : Fin 5, ∑ k : Fin 128, ∑ i : Fin 8, sqAt x ⟨b + t.val, by omega⟩ ⟨1024 * q.val + 128 * i.val + k.val, by omega⟩ := by
    have e : ∀ (q : ℕ) (hq : q < 5), chunkSum (xld x b hb ⟨4 * q, by omega⟩) (xld x b hb ⟨4 * q + 1, by omega⟩) (xld x b hb ⟨4 * q + 2, by omega⟩) (xld x b hb ⟨4 * q + 3, by omega⟩) (ix2 r t)
        = ∑ k : Fin 128, ∑ i : Fin 8, sqAt x ⟨b + t.val, by omega⟩ ⟨1024 * q + 128 * i.val + k.val, by omega⟩ := fun q hq => by
      rw [chunkSum_apply]; exact Finset.sum_congr rfl fun k _ => squares_xld x b hb q hq t k
    have e0 : chunkSum (xld x b hb 0) (xld x b hb 1) (xld x b hb 2) (xld x b hb 3) (ix2 r t) = _ := e 0 (by omega)
    have e1 : chunkSum (xld x b hb 4) (xld x b hb 5) (xld x b hb 6) (xld x b hb 7) (ix2 r t) = _ := e 1 (by omega)
    have e2 : chunkSum (xld x b hb 8) (xld x b hb 9) (xld x b hb 10) (xld x b hb 11) (ix2 r t) = _ := e 2 (by omega)
    have e3 : chunkSum (xld x b hb 12) (xld x b hb 13) (xld x b hb 14) (xld x b hb 15) (ix2 r t) = _ := e 3 (by omega)
    have e4 : chunkSum (xld x b hb 16) (xld x b hb 17) (xld x b hb 18) (xld x b hb 19) (ix2 r t) = _ := e 4 (by omega)
    pointwise [total]
    rw [e0, e1, e2, e3, e4, Fin.sum_univ_five]
    exact (add_left_comm5 _ _ _ _ _)
  rw [h, Fin.sum_univ_tiles (N := 5120) 5 1024 rfl]
  refine Finset.sum_congr rfl fun q _ => ?_
  rw [Finset.sum_comm, Fin.sum_univ_tiles (N := 1024) 8 128 rfl]
  refine Finset.sum_congr rfl fun i _ => Finset.sum_congr rfl fun k _ => ?_
  congr 1
  apply Fin.ext
  simp only; try omega

/-! ## The normalised rows and their largest magnitude -/

/-- A row of a block of tokens, and the row of the gain. -/
def rowOf (x : Vec Ideal S256x5120 .bf16) (r : Fin 256) (c : Fin 5120) : EReal := x (ix2 r c)
def gainOf (g : Vec Ideal S1x5120 .f32) (c : Fin 5120) : EReal := g (ix2 0 c)

theorem inv_n : Named.named (F := Ideal) Cert.KernelIdeal.κ "inv_n" (φ := .f32) 0x394CCCCD#32 = ((1/5120:ℝ):EReal) :=
  IdealRules.named_const.ideal_named_scalar _ _ _ _ rfl

theorem rr_apply (x : Vec Ideal S256x5120 .bf16) (b : ℕ) (hb : b ≤ 128) (p k : Fin 128) :
    rr x b hb (ix2 p k) = Spec.rsq (rowOf x ⟨b + p.val, by omega⟩) := by
  have h : rr x b hb (ix2 p k) = Ideal.rsqrt (total (xld x b hb) (ix2 0 p) * Named.named (F := Ideal) Cert.KernelIdeal.κ "inv_n" (φ := .f32) 0x394CCCCD#32 + Ideal.ofBits .f32 0x358637BD#32) := by
    pointwise [rr, rstd]
  rw [h, total_apply, inv_n]
  rfl

theorem hc0_apply (x : Vec Ideal S256x5120 .bf16) (g : Vec Ideal S1x5120 .f32) (b : ℕ) (hb : b ≤ 128) (j : Fin 20) (p k : Fin 128) :
    hc0 x g b hb (rr x b hb) j (ix2 p k) = Spec.hrow (rowOf x ⟨b + p.val, by omega⟩) (gainOf g) ⟨256 * j.val + k.val, by omega⟩ := by
  have h : hc0 x g b hb (rr x b hb) j (ix2 p k) = half0 (xld x b hb j) (ix2 p k) * rr x b hb (ix2 p k) * g (ix2 0 ⟨128 * (2 * j.val) + k.val, by omega⟩) := by
    pointwise [hc0, times, gld]
  rw [h, half0_xld, rr_apply]
  have e : (⟨128 * (2 * j.val) + k.val, by omega⟩ : Fin 5120) = ⟨256 * j.val + k.val, by omega⟩ := Fin.ext (by simp only; omega)
  rw [e]; rfl

theorem hc1_apply (x : Vec Ideal S256x5120 .bf16) (g : Vec Ideal S1x5120 .f32) (b : ℕ) (hb : b ≤ 128) (j : Fin 20) (p k : Fin 128) :
    hc1 x g b hb (rr x b hb) j (ix2 p k) = Spec.hrow (rowOf x ⟨b + p.val, by omega⟩) (gainOf g) ⟨256 * j.val + (128 + k.val), by omega⟩ := by
  have h : hc1 x g b hb (rr x b hb) j (ix2 p k) = half1 (xld x b hb j) (ix2 p k) * rr x b hb (ix2 p k) * g (ix2 0 ⟨128 * (2 * j.val + 1) + k.val, by omega⟩) := by
    pointwise [hc1, times, gld]
  rw [h, half1_xld, rr_apply]
  have e : (⟨128 * (2 * j.val + 1) + k.val, by omega⟩ : Fin 5120) = ⟨256 * j.val + (128 + k.val), by omega⟩ := Fin.ext (by simp only; omega)
  rw [e]; rfl

theorem runMax_le (h0 h1 : Fin 20 → FVec Ideal S128x128 .f32) (i : S128x128.Idx) (z : EReal) :
    runMax h0 h1 i ≤ z ↔ ∀ j : Fin 20, max (h0 j i) (-h0 j i) ≤ z ∧ max (h1 j i) (-h1 j i) ≤ z := by
  have key : ∀ (l : List (Fin 20)) (a : FVec Ideal S128x128 .f32),
      (l.foldl (fun p j => maximumf (maximumf p (absf (h0 j))) (absf (h1 j))) a) i ≤ z
        ↔ a i ≤ z ∧ ∀ j ∈ l, max (h0 j i) (-h0 j i) ≤ z ∧ max (h1 j i) (-h1 j i) ≤ z := fun l => by
    induction l with
    | nil => intro a; simp
    | cons j l ih =>
      intro a
      rw [List.foldl_cons, ih]
      show max (max (a i) (max (h0 j i) (-h0 j i))) (max (h1 j i) (-h1 j i)) ≤ z ∧ _ ↔ _
      rw [max_le_iff, max_le_iff, List.forall_mem_cons]
      tauto
  refine (key _ _).trans ?_
  show max (max (h0 0 i) (-h0 0 i)) (max (h1 0 i) (-h1 0 i)) ≤ z ∧ _ ↔ _
  rw [max_le_iff]
  constructor
  · rintro ⟨h, h'⟩ j
    by_cases hj : j = 0
    · subst hj; exact h
    · exact h' j (by revert hj; revert j; decide)
  · exact fun h => ⟨h 0, fun j _ => h j⟩

theorem amax_apply (x : Vec Ideal S256x5120 .bf16) (g : Vec Ideal S1x5120 .f32) (b : ℕ) (hb : b ≤ 128) (p : Fin 128) :
    amax x g b hb (ix2 p 0) = Spec.amx (rowOf x ⟨b + p.val, by omega⟩) (gainOf g) := by
  pointwise [amax]
  unfold Spec.amx
  refine eq_of_forall_ge_iff fun z => ?_
  rw [Finset.fold_max_le, Finset.fold_max_le]
  refine and_congr_right fun _ => ⟨fun h c _ => ?_, fun h k _ => (runMax_le _ _ _ _).2 fun j => ?_⟩
  · have hj := (runMax_le _ _ _ _).1 (h ⟨c.val % 128, Nat.mod_lt _ (by omega)⟩ (Finset.mem_univ _)) ⟨c.val / 256, by omega⟩
    rw [hc0_apply, hc1_apply] at hj
    by_cases hc : c.val % 256 < 128
    · have e : (⟨256 * (c.val / 256) + c.val % 128, by omega⟩ : Fin 5120) = c := Fin.ext (by simp only; omega)
      have := hj.1; rw [e] at this; exact this
    · have e : (⟨256 * (c.val / 256) + (128 + c.val % 128), by omega⟩ : Fin 5120) = c := Fin.ext (by simp only; omega)
      have := hj.2; rw [e] at this; exact this
  · rw [hc0_apply, hc1_apply]
    exact ⟨h _ (Finset.mem_univ _), h _ (Finset.mem_univ _)⟩

end Cert.KernelIdeal.Gen.Tile

end
-- ==== Proof.KernelIdeal.Scale.lean ====
/- The scale of a row: the exponent field found by bisection is the floor of the base-two logarithm, so the scale and
   its inverse, built from their bits, are the powers of two of `Spec`. -/
module

public import proofs.«01_k».proof.Proof.KernelIdeal.Model
public import proofs.«01_k».proof.Proof.Spec
public import Idealize.ShloMosaic.Lib.Pointwise

@[expose] public section

set_option maxRecDepth 16384

noncomputable section

namespace Cert.KernelIdeal.Gen.Tile

open Idealize.ShloMosaic Idealize.ShloMosaic.TcCoe Cert

/-- The number of exponent field `n`. -/
def V (n : ℕ) : EReal := Ideal.ofBits .f32 (BitVec.ofNat 32 n <<< 23)

theorem V_bits (n : Fin 256) : ((BitVec.ofNat 32 n.val <<< 23).extractLsb' (8 + 23) 1 == 1#1) = false
    ∧ ((BitVec.ofNat 32 n.val <<< 23).extractLsb' 23 8).toNat = n.val ∧ ((BitVec.ofNat 32 n.val <<< 23).extractLsb' 0 23).toNat = 0 := by
  revert n; decide +kernel

theorem V_zero : V 0 = 0 := by
  obtain ⟨h1, h2, h3⟩ := V_bits 0
  show Ideal.ieee 8 23 (BitVec.ofNat 32 (0 : Fin 256).val <<< 23) = 0
  unfold Ideal.ieee
  simp only [h1, h2, h3]
  norm_num

theorem V_top : V 255 = ⊤ := by
  obtain ⟨h1, h2, h3⟩ := V_bits 255
  show Ideal.ieee 8 23 (BitVec.ofNat 32 (255 : Fin 256).val <<< 23) = ⊤
  unfold Ideal.ieee
  simp only [h1, h2, h3]
  norm_num

theorem V_val (n : ℕ) (h0 : 0 < n) (h : n < 255) : V n = (((2 : ℝ) ^ ((n : ℤ) - 127) : ℝ) : EReal) := by
  obtain ⟨h1, h2, h3⟩ := V_bits ⟨n, by omega⟩
  show Ideal.ieee 8 23 (BitVec.ofNat 32 (⟨n, by omega⟩ : Fin 256).val <<< 23) = _
  unfold Ideal.ieee
  simp only [h1, h2, h3]
  rw [if_neg (by omega), if_neg (by omega)]
  refine congrArg (fun r : ℝ => (r : EReal)) ?_
  have e : ((n : ℤ) - 127) = 23 + ((n : ℤ) - (2 ^ (8 - 1) - 1) - 23) := by norm_num
  rw [e, zpow_add₀ (by norm_num : (2 : ℝ) ≠ 0)]
  norm_num

/-! ## The bisection -/

def st (a : EReal) (k n : ℕ) : ℕ := if V (n + k) ≤ a then n + k else n
def fld (a : EReal) : ℕ := st a 1 (st a 2 (st a 4 (st a 8 (st a 16 (st a 32 (st a 64 (st a 128 0)))))))

/-- The field of `a` is from `n` on and before `n + k`. -/
def Bis (a : EReal) (n k : ℕ) : Prop := n + k ≤ 256 ∧ (n = 0 ∨ V n ≤ a) ∧ (n + k = 256 ∨ a < V (n + k))

theorem Bis.step {a : EReal} {n k : ℕ} (h : Bis a n (k + k)) : Bis a (st a k n) k := by
  obtain ⟨h0, h1, h2⟩ := h
  unfold st
  by_cases hv : V (n + k) ≤ a
  · rw [if_pos hv]; exact ⟨by omega, .inr hv, by rw [Nat.add_assoc]; exact h2⟩
  · rw [if_neg hv]; exact ⟨by omega, h1, .inr (lt_of_not_ge hv)⟩

theorem fld_bis (a : EReal) : Bis a (fld a) 1 :=
  (show Bis a 0 (128 + 128) from ⟨by omega, .inl rfl, .inl rfl⟩).step.step.step.step.step.step.step.step

theorem ladder_apply (a : FVec Ideal S128x1 .f32) (k n : ℕ) (e : IVec S128x1 32) (p : Fin 128) (he : e (ix2 p 0) = BitVec.ofNat 32 n) :
    ladder a (BitVec.ofNat 32 k) e (ix2 p 0) = BitVec.ofNat 32 (st (a (ix2 p 0)) k n) := by
  have h : ladder a (BitVec.ofNat 32 k) e (ix2 p 0) = if Ideal.ofBits FTy.f32 (IntOp.shli ArithUnit.vector (IntOp.addi (e (ix2 p 0)) (BitVec.ofNat 32 k)) 23#32) ≤ a (ix2 p 0) then
      IntOp.addi (e (ix2 p 0)) (BitVec.ofNat 32 k) else e (ix2 p 0) := by pointwise [ladder]
  have hs : IntOp.addi (BitVec.ofNat 32 n) (BitVec.ofNat 32 k) = BitVec.ofNat 32 (n + k) := (BitVec.ofNat_add n k).symm
  have hv : Ideal.ofBits FTy.f32 (IntOp.shli ArithUnit.vector (BitVec.ofNat 32 (n + k)) 23#32) = V (n + k) := rfl
  rw [h, he, hs, hv]
  unfold st
  split <;> rfl

theorem fieldOf_apply (a : FVec Ideal S128x1 .f32) (p : Fin 128) : fieldOf a (ix2 p 0) = BitVec.ofNat 32 (fld (a (ix2 p 0))) :=
  ladder_apply a 1 _ _ p (ladder_apply a 2 _ _ p (ladder_apply a 4 _ _ p (ladder_apply a 8 _ _ p (ladder_apply a 16 _ _ p
    (ladder_apply a 32 _ _ p (ladder_apply a 64 _ _ p (ladder_apply a 128 0 _ p rfl)))))))

/-! ## The scale and its inverse -/

/-- The field given to the scale, and to the inverse, of a row of field `n`; `z`: its largest magnitude is zero. -/
def scF (n : ℕ) (z : Bool) : ℕ := if n = 0 ∨ 253 ≤ n ∨ z = true then 127 else n + 1
def ivF (n : ℕ) (z : Bool) : ℕ := if n = 0 ∨ 253 ≤ n ∨ z = true then 127 else 253 - n

abbrev bsF (f : BitVec 32) : BitVec 32 := Scalar.select (IntOp.cmpi CmpIPredicate.sge f 253#32) (255#32) f
abbrev plF (f : BitVec 32) (z : Bool) : BitVec 1 :=
  IntOp.ori (IntOp.ori (IntOp.cmpi CmpIPredicate.eq (bsF f) 0#32) (IntOp.cmpi CmpIPredicate.eq (bsF f) 255#32)) (BitVec.ofBool z)

theorem scF_bits (n : Fin 256) (z : Bool) : IntOp.shli ArithUnit.vector (Scalar.select (plF (BitVec.ofNat 32 n.val) z) (127#32) (IntOp.addi (bsF (BitVec.ofNat 32 n.val)) 1#32)) 23#32
    = BitVec.ofNat 32 (scF n.val z) <<< 23 := by revert n z; decide +kernel
theorem ivF_bits (n : Fin 256) (z : Bool) : IntOp.shli ArithUnit.vector (Scalar.select (plF (BitVec.ofNat 32 n.val) z) (127#32) (IntOp.subi (253#32) (bsF (BitVec.ofNat 32 n.val)))) 23#32
    = BitVec.ofNat 32 (ivF n.val z) <<< 23 := by revert n z; decide +kernel

theorem scaled_apply (m : FVec Ideal S128x1 .f32) (p : Fin 128) : scaled m (ix2 p 0) = m (ix2 p 0) * Ideal.ofBits .f32 0x3B124925#32 := by
  pointwise [scaled]

theorem scaleBits_apply (m : FVec Ideal S128x1 .f32) (p : Fin 128) :
    Ideal.ofBits .f32 (scaleBits m (ix2 p 0)) = V (scF (fld (m (ix2 p 0) * Ideal.ofBits .f32 0x3B124925#32)) (decide (m (ix2 p 0) = 0))) := by
  have h := (fld_bis (m (ix2 p 0) * Ideal.ofBits .f32 0x3B124925#32)).1
  have e := scF_bits ⟨fld (m (ix2 p 0) * Ideal.ofBits .f32 0x3B124925#32), by omega⟩ (decide (m (ix2 p 0) = 0))
  pointwise [scaleBits, plain, biased]
  rw [fieldOf_apply, scaled_apply]
  exact congrArg _ e

theorem inv_bits_apply (m : FVec Ideal S128x1 .f32) (p : Fin 128) :
    inv m (ix2 p 0) = V (ivF (fld (m (ix2 p 0) * Ideal.ofBits .f32 0x3B124925#32)) (decide (m (ix2 p 0) = 0))) := by
  have h := (fld_bis (m (ix2 p 0) * Ideal.ofBits .f32 0x3B124925#32)).1
  have e := ivF_bits ⟨fld (m (ix2 p 0) * Ideal.ofBits .f32 0x3B124925#32), by omega⟩ (decide (m (ix2 p 0) = 0))
  pointwise [inv, plain, biased]
  rw [fieldOf_apply, scaled_apply]
  exact congrArg _ e

theorem pow_two (z : ℤ) : Ideal.pow (Ideal.ofBits .f32 0x40000000#32) ((z : ℝ) : EReal) = (((2 : ℝ) ^ z : ℝ) : EReal) := by
  have h : Ideal.ofBits .f32 0x40000000#32 = (((2 : ℝ) ^ ((128 : ℤ) - 127) : ℝ) : EReal) := V_val 128 (by omega) (by omega)
  rw [h]
  show ((Real.rpow ((2 : ℝ) ^ ((128 : ℤ) - 127)) (z : ℝ) : ℝ) : EReal) = _
  norm_num

theorem V_one : V 127 = 1 := by rw [V_val 127 (by omega) (by omega)]; norm_num

theorem expo_of_field (m : EReal) : (fld (m * Ideal.ofBits .f32 0x3B124925#32) = 0 ∨ 253 ≤ fld (m * Ideal.ofBits .f32 0x3B124925#32) ∨ decide (m = 0) = true) ∧ Spec.expo m = ((0 : ℤ) : ℝ)
    ∨ ¬(fld (m * Ideal.ofBits .f32 0x3B124925#32) = 0 ∨ 253 ≤ fld (m * Ideal.ofBits .f32 0x3B124925#32) ∨ decide (m = 0) = true)
      ∧ Spec.expo m = (((fld (m * Ideal.ofBits .f32 0x3B124925#32) : ℤ) - 126 : ℤ) : ℝ) := by
  unfold Spec.expo
  have hb := fld_bis (m * Ideal.ofBits .f32 0x3B124925#32)
  have hz : m = 0 → m * Ideal.ofBits .f32 0x3B124925#32 = 0 := fun h => by rw [h, zero_mul]
  generalize m * Ideal.ofBits .f32 0x3B124925#32 = a at *
  generalize fld a = n at *
  obtain ⟨h0, h1, h2⟩ := hb
  have c1 : Ideal.ofBits .f32 0x00800000#32 = V 1 := rfl
  have c2 : Ideal.ofBits .f32 0x7E800000#32 = V 253 := rfl
  have c3 : Ideal.ofBits .f32 0x40000000#32 = V 128 := rfl
  have c4 : Ideal.ofBits .f32 0x3F800000#32 = V 127 := rfl
  rw [c1, c2, c3, c4]
  have mono : ∀ i j : ℕ, 0 < i → i ≤ j → j ≤ 255 → V i ≤ V j := fun i j hi hij hj => by
    by_cases h : j = 255
    · rw [h, V_top]; exact le_top
    · rw [V_val i hi (by omega), V_val j (by omega) (by omega)]
      exact EReal.coe_le_coe_iff.2 (zpow_le_zpow_right₀ (by norm_num) (by omega))
  by_cases hp : n = 0 ∨ 253 ≤ n ∨ decide (m = 0) = true
  · refine .inl ⟨hp, ?_⟩
    rw [if_neg]
    · norm_num
    · rintro ⟨g1, g2⟩
      rcases hp with h | h | h
      · subst h
        rcases h2 with h2 | h2
        · omega
        · exact absurd g1 (not_le_of_gt h2)
      · rcases h1 with h1 | h1
        · omega
        · exact absurd ((mono 253 n (by omega) h (by omega)).trans h1) (not_le_of_gt g2)
      · rw [hz (of_decide_eq_true h), V_val 1 (by omega) (by omega)] at g1
        exact absurd (EReal.coe_le_coe_iff.1 g1) (not_le_of_gt (by positivity))
  · refine .inr ⟨hp, ?_⟩
    have hn0 : 0 < n := by omega
    have hn1 : n < 253 := by omega
    have l : V n ≤ a := h1.resolve_left (by omega)
    have u : a < V (n + 1) := h2.resolve_left (by omega)
    rw [if_pos ⟨(mono 1 n (by omega) (by omega) (by omega)).trans l, u.trans_le (mono (n + 1) 253 (by omega) (by omega) (by omega))⟩]
    rw [V_val n hn0 (by omega)] at l
    rw [V_val (n + 1) (by omega) (by omega)] at u
    have hne : a ≠ ⊥ := fun h => by rw [h] at l; exact absurd (le_bot_iff.1 l) (EReal.coe_ne_bot _)
    have hnt : a ≠ ⊤ := fun h => by rw [h] at u; exact absurd u (not_lt_of_ge le_top)
    lift a to ℝ using ⟨hnt, hne⟩ with r
    have l' := EReal.coe_le_coe_iff.1 l
    have u' := EReal.coe_lt_coe_iff.1 u
    have hr : 0 < r := lt_of_lt_of_le (by positivity) l'
    have hl2 : 0 < Real.log 2 := Real.log_pos (by norm_num)
    have hlog : Ideal.log (r : EReal) = (Real.log r : EReal) := if_neg (not_le_of_gt hr)
    have hlog2 : Ideal.log (V 128) = (Real.log 2 : EReal) := by
      rw [V_val 128 (by omega) (by omega)]
      norm_num
    have hdiv : Ideal.div (Real.log r : EReal) (Real.log 2 : EReal) = ((Real.log r / Real.log 2 : ℝ) : EReal) := by
      unfold Ideal.div
      rw [if_neg (by exact_mod_cast hl2.ne'), ← EReal.coe_inv, ← EReal.coe_mul, div_eq_mul_inv]
    have hfl : ⌊Real.log r / Real.log 2⌋ = (n : ℤ) - 127 := by
      rw [Int.floor_eq_iff]
      constructor
      · rw [le_div_iff₀ hl2, ← Real.log_zpow]
        exact Real.log_le_log (by positivity) l'
      · rw [div_lt_iff₀ hl2]
        have e : (((n : ℤ) - 127 : ℤ) : ℝ) + 1 = ((((n + 1 : ℕ) : ℤ) - 127 : ℤ) : ℝ) := by push_cast; ring
        rw [e, ← Real.log_zpow]
        exact Real.log_lt_log hr u'
    rw [hlog, hlog2, hdiv]
    show ((⌊Real.log r / Real.log 2⌋ : ℝ) : EReal) + V 127 = _
    rw [hfl, V_one, ← EReal.coe_one, ← EReal.coe_add]
    congr 1
    push_cast; ring

theorem scale_eq (m : EReal) : V (scF (fld (m * Ideal.ofBits .f32 0x3B124925#32)) (decide (m = 0))) = Spec.scOf m := by
  unfold Spec.scOf scF
  rcases expo_of_field m with ⟨h, e⟩ | ⟨h, e⟩
  · rw [if_pos h, e, pow_two, V_one]; norm_num
  · rw [if_neg h, e, pow_two, V_val _ (by omega) (by omega)]
    congr 2
    push_cast; ring

theorem inv_eq (m : EReal) : V (ivF (fld (m * Ideal.ofBits .f32 0x3B124925#32)) (decide (m = 0))) = Spec.ivOf m := by
  unfold Spec.ivOf ivF
  rcases expo_of_field m with ⟨h, e⟩ | ⟨h, e⟩
  · rw [if_pos h, e, ← EReal.coe_neg, ← Int.cast_neg, pow_two, V_one]; norm_num
  · rw [if_neg h, e, ← EReal.coe_neg, ← Int.cast_neg, pow_two, V_val _ (by omega) (by omega)]
    congr 2
    omega

theorem scale_apply (m : FVec Ideal S128x1 .f32) (p : Fin 128) : Ideal.ofBits .f32 (scaleBits m (ix2 p 0)) = Spec.scOf (m (ix2 p 0)) :=
  (scaleBits_apply m p).trans (scale_eq _)
theorem inv_apply (m : FVec Ideal S128x1 .f32) (p : Fin 128) : inv m (ix2 p 0) = Spec.ivOf (m (ix2 p 0)) :=
  (inv_bits_apply m p).trans (inv_eq _)

end Cert.KernelIdeal.Gen.Tile

end
-- ==== Proof.KernelIdeal.Pieces.lean ====
/- The stores of one tile put together: each array a point of the grid leaves is, index by index, its row's function
   of `Spec`. -/
module

public import proofs.«01_k».proof.Proof.KernelIdeal.Stages
public import proofs.«01_k».proof.Proof.KernelIdeal.Scale

@[expose] public section

set_option maxRecDepth 16384

noncomputable section

namespace Cert.KernelIdeal.Gen.Tile

open Idealize.ShloMosaic Idealize.ShloMosaic.TcCoe Cert

/-! ## The rows kept and read back -/

def hG (x : Vec Ideal S256x5120 .bf16) (g : Vec Ideal S1x5120 .f32) (i : S256x5120.Idx) : Elt Ideal .f32 :=
  Spec.hrow (rowOf x (i 0)) (gainOf g) (i 1)

theorem hPiece0_eq (x : Vec Ideal S256x5120 .bf16) (g : Vec Ideal S1x5120 .f32) (b : ℕ) (hb : b ≤ 128) (j : Fin 20) (z : S128x128.Idx) :
    (hPiece0 x g b hb j).2 z = hG x g ((hPiece0 x g b hb j).1.emb z) := by
  obtain ⟨p, k, rfl⟩ : ∃ p k, z = ix2 p k := ⟨_, _, eq_ix2 z⟩
  have h : shapeCast S128x128 (hc0 x g b hb (rr x b hb) j) shapeCasts_S128x128_S128x128 (ix2 p k) = hc0 x g b hb (rr x b hb) j (ix2 p k) := by pointwise
  exact h.trans ((hc0_apply x g b hb j p k).trans (congrArg₂ (fun r c => Spec.hrow (rowOf x r) (gainOf g) c)
    (Fin.ext (show b + p.val = b + 1 * p.val by omega)) (Fin.ext (show 256 * j.val + k.val = 256 * j.val + 1 * k.val by omega))))

theorem hPiece1_eq (x : Vec Ideal S256x5120 .bf16) (g : Vec Ideal S1x5120 .f32) (b : ℕ) (hb : b ≤ 128) (j : Fin 20) (z : S128x128.Idx) :
    (hPiece1 x g b hb j).2 z = hG x g ((hPiece1 x g b hb j).1.emb z) := by
  obtain ⟨p, k, rfl⟩ : ∃ p k, z = ix2 p k := ⟨_, _, eq_ix2 z⟩
  have h : shapeCast S128x128 (hc1 x g b hb (rr x b hb) j) shapeCasts_S128x128_S128x128 (ix2 p k) = hc1 x g b hb (rr x b hb) j (ix2 p k) := by pointwise
  exact h.trans ((hc1_apply x g b hb j p k).trans (congrArg₂ (fun r c => Spec.hrow (rowOf x r) (gainOf g) c)
    (Fin.ext (show b + p.val = b + 1 * p.val by omega)) (Fin.ext (show 256 * j.val + (128 + k.val) = 256 * j.val + 128 + 1 * k.val by omega))))

theorem mem_hPieces (x : Vec Ideal S256x5120 .bf16) (g : Vec Ideal S1x5120 .f32) (b : ℕ) (hb : b ≤ 128)
    (L : List (View.Piece (Elt Ideal) S256x5120 .f32)) (q : View.Piece (Elt Ideal) S256x5120 .f32) :
    q ∈ hPieces x g b hb L ↔ q ∈ L ∨ ∃ j : Fin 20, q = hPiece0 x g b hb j ∨ q = hPiece1 x g b hb j := by
  have key : ∀ (l : List (Fin 20)) (L : List (View.Piece (Elt Ideal) S256x5120 .f32)),
      q ∈ l.foldl (fun L j => hPiece1 x g b hb j :: hPiece0 x g b hb j :: L) L
        ↔ q ∈ L ∨ ∃ j ∈ l, q = hPiece0 x g b hb j ∨ q = hPiece1 x g b hb j := fun l => by
    induction l with
    | nil => intro L; simp
    | cons j l ih =>
      intro L
      rw [List.foldl_cons, ih, List.mem_cons, List.mem_cons, show (∃ i ∈ j :: l, q = hPiece0 x g b hb i ∨ q = hPiece1 x g b hb i)
        ↔ (q = hPiece0 x g b hb j ∨ q = hPiece1 x g b hb j) ∨ ∃ i ∈ l, q = hPiece0 x g b hb i ∨ q = hPiece1 x g b hb i from List.exists_mem_cons_iff ..]
      constructor
      · rintro ((h | h | h) | h)
        exacts [.inr (.inl (.inr h)), .inr (.inl (.inl h)), .inl h, .inr (.inr h)]
      · rintro (h | (h | h) | h)
        exacts [.inl (.inr (.inr h)), .inl (.inr (.inl h)), .inl (.inl h), .inr h]
  refine (key _ L).trans (or_congr_right ⟨fun ⟨j, _, h⟩ => ⟨j, h⟩, fun ⟨j, h⟩ => ⟨j, (by decide : ∀ i : Fin 20, i ∈ ([0, 1, 2, 3, 4, 5, 6, 7, 8, 9, 10, 11, 12, 13, 14, 15, 16, 17, 18, 19] : List (Fin 20))) j, h⟩⟩)

theorem hPieces_eq (x : Vec Ideal S256x5120 .bf16) (g : Vec Ideal S1x5120 .f32) (b : ℕ) (hb : b ≤ 128)
    (L : List (View.Piece (Elt Ideal) S256x5120 .f32)) (hL : ∀ q ∈ L, ∀ z : q.1.shape.Idx, q.2 z = hG x g (q.1.emb z)) :
    ∀ q ∈ hPieces x g b hb L, ∀ z : q.1.shape.Idx, q.2 z = hG x g (q.1.emb z) := fun q hq => by
  rcases (mem_hPieces x g b hb L q).1 hq with h | ⟨j, rfl | rfl⟩
  · exact hL q h
  · exact hPiece0_eq x g b hb j
  · exact hPiece1_eq x g b hb j

theorem hPieces_cover (x : Vec Ideal S256x5120 .bf16) (g : Vec Ideal S1x5120 .f32) (b : ℕ) (hb : b ≤ 128)
    (L : List (View.Piece (Elt Ideal) S256x5120 .f32)) (y : S256x5120.Idx) (h0 : b ≤ (y 0).val) (h1 : (y 0).val < b + 128) :
    ∃ q ∈ hPieces x g b hb L, y ∈ q.1.set := by
  have hy : (y 1).val < 5120 := (y 1).isLt
  by_cases hc : (y 1).val % 256 < 128
  · refine ⟨_, (mem_hPieces x g b hb L _).2 (.inr ⟨⟨(y 1).val / 256, by omega⟩, .inl rfl⟩), ?_⟩
    simp only [hPiece0, hPiece1, codePiece, codePieceS, Rect.mem_set_unit]; intro a
    fin_cases a
    · exact ⟨h0, h1⟩
    · exact ⟨show 256 * ((y 1).val / 256) ≤ (y 1).val by omega, show (y 1).val < 256 * ((y 1).val / 256) + 128 by omega⟩
  · refine ⟨_, (mem_hPieces x g b hb L _).2 (.inr ⟨⟨(y 1).val / 256, by omega⟩, .inr rfl⟩), ?_⟩
    simp only [hPiece0, hPiece1, codePiece, codePieceS, Rect.mem_set_unit]; intro a
    fin_cases a
    · exact ⟨h0, h1⟩
    · exact ⟨show 256 * ((y 1).val / 256) + 128 ≤ (y 1).val by omega, show (y 1).val < 256 * ((y 1).val / 256) + 128 + 128 by omega⟩

theorem hback_apply (v : View sig .tc .vmem S256x5120 .f32) (x : Vec Ideal S256x5120 .bf16) (g : Vec Ideal S1x5120 .f32) (b : ℕ) (hb : b ≤ 128)
    (L : List (View.Piece (Elt Ideal) S256x5120 .f32)) (hL : ∀ q ∈ L, ∀ z : q.1.shape.Idx, q.2 z = hG x g (q.1.emb z)) (c : Fin 4) (p : Fin 128) (k : Fin 1280) :
    hback v (hPieces x g b hb L) b hb c (ix2 p k) = Spec.hrow (rowOf x ⟨b + p.val, by omega⟩) (gainOf g) ⟨1280 * c.val + k.val, by omega⟩ := by
  refine (v.read_writes_apply_of_pieces (v.junk) (hG x g) (hPieces x g b hb L) (hPieces_eq x g b hb L hL) _
    (hPieces_cover x g b hb L _ (show b ≤ b + 1 * p.val by omega) (show b + 1 * p.val < b + 128 by omega))).trans ?_
  exact congrArg₂ (fun r c => Spec.hrow (rowOf x r) (gainOf g) c)
    (Fin.ext (show b + 1 * p.val = b + p.val by omega)) (Fin.ext (show 1280 * c.val + 1 * k.val = 1280 * c.val + k.val by omega))

theorem hL0_eq (x : Vec Ideal S256x5120 .bf16) (g : Vec Ideal S1x5120 .f32) :
    ∀ q ∈ hL0 x g, ∀ z : q.1.shape.Idx, q.2 z = hG x g (q.1.emb z) :=
  hPieces_eq x g 0 (by omega) [] (fun q hq => absurd hq List.not_mem_nil)

/-! ## The codes and the scales -/

/-- The code of row `r` of a tile at a column, and the row's scale. -/
def codeAt (x : Vec Ideal S256x5120 .bf16) (g : Vec Ideal S1x5120 .f32) (r : Fin 256) (c : Fin 5120) : EReal := Spec.code (rowOf x r) (gainOf g) c
def scaleAt (x : Vec Ideal S256x5120 .bf16) (g : Vec Ideal S1x5120 .f32) (r : Fin 256) : EReal := Spec.scOf (Spec.amx (rowOf x r) (gainOf g))

theorem codes_apply (v : View sig .tc .vmem S256x5120 .f32) (x : Vec Ideal S256x5120 .bf16) (g : Vec Ideal S1x5120 .f32) (b : ℕ) (hb : b ≤ 128)
    (L : List (View.Piece (Elt Ideal) S256x5120 .f32)) (hL : ∀ q ∈ L, ∀ z : q.1.shape.Idx, q.2 z = hG x g (q.1.emb z)) (c : Fin 4) (p : Fin 128) (k : Fin 1280) :
    codes (inv (amax x g b hb)) (hback v (hPieces x g b hb L) b hb c) (ix2 p k) = codeAt x g ⟨b + p.val, by omega⟩ ⟨1280 * c.val + k.val, by omega⟩ := by
  have h : codes (inv (amax x g b hb)) (hback v (hPieces x g b hb L) b hb c) (ix2 p k)
      = min (Ideal.ofBits .f32 1138753536#32) (max (Ideal.ofBits .f32 3286237184#32) (hback v (hPieces x g b hb L) b hb c (ix2 p k) * inv (amax x g b hb) (ix2 p 0))) := by
    pointwise [codes]
  rw [h, hback_apply v x g b hb L hL, inv_apply, amax_apply]
  rfl

def codeG (x : Vec Ideal S256x5120 .bf16) (g : Vec Ideal S1x5120 .f32) (i : S256x5120.Idx) : Elt Ideal .fp8e4m3 := codeAt x g (i 0) (i 1)
def codeGS (x : Vec Ideal S256x5120 .bf16) (g : Vec Ideal S1x5120 .f32) (i : S2x256x5120.Idx) : Elt Ideal .fp8e4m3 := codeAt x g (i 1) (i 2)

section
variable (v : View sig .tc .vmem S256x5120 .f32) (x : Vec Ideal S256x5120 .bf16) (g : Vec Ideal S1x5120 .f32)

theorem codePiece_eq (b : ℕ) (hb : b ≤ 128) (L : List (View.Piece (Elt Ideal) S256x5120 .f32))
    (hL : ∀ q ∈ L, ∀ z : q.1.shape.Idx, q.2 z = hG x g (q.1.emb z)) (c : Fin 4) (z : S128x1280.Idx) :
    (codePiece v x g (hPieces x g b hb L) b hb c).2 z = codeG x g ((codePiece v x g (hPieces x g b hb L) b hb c).1.emb z) := by
  obtain ⟨p, k, rfl⟩ : ∃ p k, z = ix2 p k := ⟨_, _, eq_ix2 z⟩
  exact (codes_apply v x g b hb L hL c p k).trans (congrArg₂ (codeAt x g)
    (Fin.ext (show b + p.val = b + 1 * p.val by omega)) (Fin.ext (show 1280 * c.val + k.val = 1280 * c.val + 1 * k.val by omega)))

theorem codePieceS_eq (s : Fin 2) (b : ℕ) (hb : b ≤ 128) (L : List (View.Piece (Elt Ideal) S256x5120 .f32))
    (hL : ∀ q ∈ L, ∀ z : q.1.shape.Idx, q.2 z = hG x g (q.1.emb z)) (c : Fin 4) (z : S1x128x1280.Idx) :
    (codePieceS v x g s (hPieces x g b hb L) b hb c).2 z = codeGS x g ((codePieceS v x g s (hPieces x g b hb L) b hb c).1.emb z) := by
  obtain ⟨o, p, k, rfl⟩ : ∃ o p k, z = ix3 o p k := ⟨_, _, _, eq_ix3 z⟩
  have h : codesS (inv (amax x g b hb)) (hback v (hPieces x g b hb L) b hb c) (ix3 o p k) = codes (inv (amax x g b hb)) (hback v (hPieces x g b hb L) b hb c) (ix2 p k) := by
    obtain rfl : o = 0 := Subsingleton.elim _ _
    pointwise [codesS]
  exact h.trans ((codes_apply v x g b hb L hL c p k).trans (congrArg₂ (codeAt x g)
    (Fin.ext (show b + p.val = b + 1 * p.val by omega)) (Fin.ext (show 1280 * c.val + k.val = 1280 * c.val + 1 * k.val by omega))))

theorem codePieces_eq : ∀ q ∈ codePieces v x g, ∀ z : q.1.shape.Idx, q.2 z = codeG x g (q.1.emb z) := by
  unfold codePieces
  simp only [List.forall_mem_cons]
  refine ⟨?_, ?_, ?_, ?_, ?_, ?_, ?_, ?_, fun q hq => absurd hq List.not_mem_nil⟩
  iterate 4 exact codePiece_eq v x g 128 (by omega) (hL0 x g) (hL0_eq x g) _
  iterate 4 exact codePiece_eq v x g 0 (by omega) [] (fun q hq => absurd hq List.not_mem_nil) _

theorem codePiecesS_eq (s : Fin 2) : ∀ q ∈ codePiecesS v x g s, ∀ z : q.1.shape.Idx, q.2 z = codeGS x g (q.1.emb z) := by
  unfold codePiecesS
  simp only [List.forall_mem_cons]
  refine ⟨?_, ?_, ?_, ?_, ?_, ?_, ?_, ?_, fun q hq => absurd hq List.not_mem_nil⟩
  iterate 4 exact codePieceS_eq v x g s 128 (by omega) (hL0 x g) (hL0_eq x g) _
  iterate 4 exact codePieceS_eq v x g s 0 (by omega) [] (fun q hq => absurd hq List.not_mem_nil) _

theorem mem_codePieces0 (c : Fin 4) : codePiece v x g (hL0 x g) 0 (by omega) c ∈ codePieces v x g := by
  unfold codePieces; fin_cases c <;> simp only [List.mem_cons] <;> tauto
theorem mem_codePieces1 (c : Fin 4) : codePiece v x g (hL1 x g) 128 (by omega) c ∈ codePieces v x g := by
  unfold codePieces; fin_cases c <;> simp only [List.mem_cons] <;> tauto
theorem mem_codePiecesS0 (s : Fin 2) (c : Fin 4) : codePieceS v x g s (hL0 x g) 0 (by omega) c ∈ codePiecesS v x g s := by
  unfold codePiecesS; fin_cases c <;> simp only [List.mem_cons] <;> tauto
theorem mem_codePiecesS1 (s : Fin 2) (c : Fin 4) : codePieceS v x g s (hL1 x g) 128 (by omega) c ∈ codePiecesS v x g s := by
  unfold codePiecesS; fin_cases c <;> simp only [List.mem_cons] <;> tauto

theorem codePieces_cover (y : S256x5120.Idx) : ∃ q ∈ codePieces v x g, y ∈ q.1.set := by
  have h0 : (y 0).val < 256 := (y 0).isLt
  have h1 : (y 1).val < 5120 := (y 1).isLt
  by_cases hc : (y 0).val < 128
  · refine ⟨_, mem_codePieces0 v x g ⟨(y 1).val / 1280, by omega⟩, ?_⟩
    simp only [hPiece0, hPiece1, codePiece, codePieceS, Rect.mem_set_unit]; intro a
    fin_cases a
    · exact ⟨Nat.zero_le _, show (y 0).val < 0 + 128 by omega⟩
    · exact ⟨show 1280 * ((y 1).val / 1280) ≤ (y 1).val by omega, show (y 1).val < 1280 * ((y 1).val / 1280) + 1280 by omega⟩
  · refine ⟨_, mem_codePieces1 v x g ⟨(y 1).val / 1280, by omega⟩, ?_⟩
    simp only [hPiece0, hPiece1, codePiece, codePieceS, Rect.mem_set_unit]; intro a
    fin_cases a
    · exact ⟨show 128 ≤ (y 0).val by omega, show (y 0).val < 128 + 128 by omega⟩
    · exact ⟨show 1280 * ((y 1).val / 1280) ≤ (y 1).val by omega, show (y 1).val < 1280 * ((y 1).val / 1280) + 1280 by omega⟩

theorem codePiecesS_cover (s : Fin 2) (y : S2x256x5120.Idx) (hs : (y 0).val = s.val) : ∃ q ∈ codePiecesS v x g s, y ∈ q.1.set := by
  have h0 : (y 1).val < 256 := (y 1).isLt
  have h1 : (y 2).val < 5120 := (y 2).isLt
  by_cases hc : (y 1).val < 128
  · refine ⟨_, mem_codePiecesS0 v x g s ⟨(y 2).val / 1280, by omega⟩, ?_⟩
    simp only [hPiece0, hPiece1, codePiece, codePieceS, Rect.mem_set_unit]; intro a
    fin_cases a
    · exact ⟨show s.val ≤ (y 0).val by omega, show (y 0).val < s.val + 1 by omega⟩
    · exact ⟨Nat.zero_le _, show (y 1).val < 0 + 128 by omega⟩
    · exact ⟨show 1280 * ((y 2).val / 1280) ≤ (y 2).val by omega, show (y 2).val < 1280 * ((y 2).val / 1280) + 1280 by omega⟩
  · refine ⟨_, mem_codePiecesS1 v x g s ⟨(y 2).val / 1280, by omega⟩, ?_⟩
    simp only [hPiece0, hPiece1, codePiece, codePieceS, Rect.mem_set_unit]; intro a
    fin_cases a
    · exact ⟨show s.val ≤ (y 0).val by omega, show (y 0).val < s.val + 1 by omega⟩
    · exact ⟨show 128 ≤ (y 1).val by omega, show (y 1).val < 128 + 128 by omega⟩
    · exact ⟨show 1280 * ((y 2).val / 1280) ≤ (y 2).val by omega, show (y 2).val < 1280 * ((y 2).val / 1280) + 1280 by omega⟩

end

/-- The array of codes a point leaves, whatever it held. -/
theorem Upd.codes {w : View sig .tc .vmem S256x5120 .fp8e4m3} {v : View sig .tc .vmem S256x5120 .f32} {x : Vec Ideal S256x5120 .bf16} {g : Vec Ideal S1x5120 .f32}
    {e d : S256x5120.Idx → Elt Ideal .fp8e4m3} (h : Upd w e (codePieces v x g) d) : d = codeG x g := by
  obtain ⟨f, _, rfl⟩ := h
  exact funext fun y => w.read_writes_apply_of_pieces f (codeG x g) _ (codePieces_eq v x g) y (codePieces_cover v x g y)

/-- A slot of the scratch holds the codes of the tile `x`. -/
def CodesIn (d : S2x256x5120.Idx → Elt Ideal .fp8e4m3) (s : Fin 2) (x : Vec Ideal S256x5120 .bf16) (g : Vec Ideal S1x5120 .f32) : Prop :=
  ∀ (o : Fin 1) (r : Fin 256) (c : Fin 5120), View.ld d (slotRectC s) (ix3 o r c) = codeAt x g r c

theorem Upd.codesIn {w : View sig .tc .vmem S2x256x5120 .fp8e4m3} {v : View sig .tc .vmem S256x5120 .f32} {x : Vec Ideal S256x5120 .bf16} {g : Vec Ideal S1x5120 .f32}
    {e d : S2x256x5120.Idx → Elt Ideal .fp8e4m3} {s : Fin 2} (h : Upd w e (codePiecesS v x g s) d) : CodesIn d s x g := by
  obtain ⟨f, _, rfl⟩ := h
  intro o r c
  refine (w.read_writes_apply_of_pieces f (codeGS x g) _ (codePiecesS_eq v x g s) _ (codePiecesS_cover v x g s _ (show s.val + 1 * o.val = s.val by omega))).trans ?_
  exact congrArg₂ (codeAt x g) (Fin.ext (show 0 + 1 * r.val = r.val by omega)) (Fin.ext (show 0 + 1 * c.val = c.val by omega))

theorem srep_apply (x : Vec Ideal S256x5120 .bf16) (g : Vec Ideal S1x5120 .f32) (b : ℕ) (hb : b ≤ 128) (p k : Fin 128) :
    srep (amax x g b hb) (ix2 p k) = scaleAt x g ⟨b + p.val, by omega⟩ := by
  have h : srep (amax x g b hb) (ix2 p k) = Ideal.ofBits .f32 (scaleBits (amax x g b hb) (ix2 p 0)) := by pointwise [srep]
  rw [h, scale_apply, amax_apply]
  rfl

theorem Upd.scales {w : View sig .tc .vmem S1x1x256 .f32} {x : Vec Ideal S256x5120 .bf16} {g : Vec Ideal S1x5120 .f32}
    {e d : S1x1x256.Idx → Elt Ideal .f32} (h : Upd w e (scalePieces x g) d) : d = fun i => scaleAt x g (i 2) := by
  obtain ⟨f, _, rfl⟩ := h
  have pc : ∀ (b : ℕ) (hb : b ≤ 128) (z : S1x1x128.Idx), scalePay (amax x g b hb) z = scaleAt x g ⟨b + (z 2).val, by have : (z 2).val < 128 := (z 2).isLt; omega⟩ := fun b hb z => by
    obtain ⟨o, o', p, rfl⟩ : ∃ o o' p, z = ix3 o o' p := ⟨_, _, _, eq_ix3 z⟩
    obtain rfl : o = 0 := Subsingleton.elim _ _
    obtain rfl : o' = 0 := Subsingleton.elim _ _
    have h : scalePay (amax x g b hb) (ix3 0 0 p) = srep (amax x g b hb) (ix2 p 0) := by pointwise [scalePay]
    exact h.trans (srep_apply x g b hb p 0)
  refine funext fun y => w.read_writes_apply_of_pieces f (fun i => scaleAt x g (i 2)) _ ?_ y ?_
  · unfold scalePieces
    simp only [List.forall_mem_cons]
    refine ⟨fun z => (pc 128 (by omega) z).trans (congrArg (scaleAt x g) (Fin.ext ?_)), fun z => (pc 0 (by omega) z).trans (congrArg (scaleAt x g) (Fin.ext ?_)), fun q hq => absurd hq List.not_mem_nil⟩
    · show 128 + (z 2).val = 128 + 1 * (z 2).val; omega
    · show 0 + (z 2).val = 0 + 1 * (z 2).val; omega
  · have h2 : (y 2).val < 256 := (y 2).isLt
    have h0 : (y 0).val < 1 := (y 0).isLt
    have h1 : (y 1).val < 1 := (y 1).isLt
    by_cases hc : (y 2).val < 128
    · refine ⟨_, List.mem_cons_of_mem _ (List.mem_singleton.2 rfl), ?_⟩
      simp only [hPiece0, hPiece1, codePiece, codePieceS, Rect.mem_set_unit]; intro a
      fin_cases a
      · exact ⟨Nat.zero_le _, show (y 0).val < 0 + 1 by omega⟩
      · exact ⟨Nat.zero_le _, show (y 1).val < 0 + 1 by omega⟩
      · exact ⟨Nat.zero_le _, show (y 2).val < 0 + 128 by omega⟩
    · refine ⟨_, List.mem_cons_self, ?_⟩
      simp only [hPiece0, hPiece1, codePiece, codePieceS, Rect.mem_set_unit]; intro a
      fin_cases a
      · exact ⟨Nat.zero_le _, show (y 0).val < 0 + 1 by omega⟩
      · exact ⟨Nat.zero_le _, show (y 1).val < 0 + 1 by omega⟩
      · exact ⟨show 128 ≤ (y 2).val by omega, show (y 2).val < 128 + 128 by omega⟩

/-- A slot of the scratch holds the scales of the tile `x`, repeated along the lanes. -/
def ScalesIn (d : S2x256x128.Idx → Elt Ideal .f32) (s : Fin 2) (x : Vec Ideal S256x5120 .bf16) (g : Vec Ideal S1x5120 .f32) : Prop :=
  ∀ (o : Fin 1) (r : Fin 256) (k : Fin 128), View.ld d (slotRect s) (ix3 o r k) = scaleAt x g r

theorem srepRect_emb (s : Fin 2) (b : ℕ) (hb : b ≤ 128) (z : (srepRect s b hb).shape.Idx) (a : Fin 3) :
    ((srepRect s b hb).emb z a).val = (![s.val, b, 0] : Fin 3 → ℕ) a + (z a).val := by
  fin_cases a
  · show s.val + 0 + 1 * (z 0).val = s.val + (z 0).val; omega
  · show 0 + b + 1 * (z 1).val = b + (z 1).val; omega
  · show 0 + 0 + 1 * (z 2).val = 0 + (z 2).val; omega

theorem srepPiece_eq (s : Fin 2) (x : Vec Ideal S256x5120 .bf16) (g : Vec Ideal S1x5120 .f32) (b : ℕ) (hb : b ≤ 128) (z : (srepRect s b hb).shape.Idx) :
    (srepPiece s b hb (amax x g b hb)).2 z = scaleAt x g ((srepRect s b hb).emb z 1) := by
  have h1 : (z 1).val < 128 := (z 1).isLt
  have h2 : (z 2).val < 128 := (z 2).isLt
  have h : (srepPiece s b hb (amax x g b hb)).2 z = srepPay (amax x g b hb) (ix2 ⟨(z 1).val, h1⟩ ⟨(z 2).val, h2⟩) :=
    Rect.payAlong_consLift (rows128 b hb) ![1, 256, 128] rfl tail_sizes (srepPay (amax x g b hb) : S128x128.Idx → Elt Ideal .f32)
      (Rect.numel_consLift (rows128 b hb) ![1, 256, 128] rfl tail_sizes) z (ix2 ⟨(z 1).val, h1⟩ ⟨(z 2).val, h2⟩)
      (fun i : Fin 2 => by fin_cases i <;> rfl)
  have h' : srepPay (amax x g b hb) (ix2 ⟨(z 1).val, h1⟩ ⟨(z 2).val, h2⟩) = srep (amax x g b hb) (ix2 ⟨(z 1).val, h1⟩ ⟨(z 2).val, h2⟩) := by pointwise [srepPay]
  rw [h, h', srep_apply]
  exact congrArg (scaleAt x g) (Fin.ext (srepRect_emb s b hb z 1).symm)

theorem Upd.scalesIn {w : View sig .tc .vmem S2x256x128 .f32} {x : Vec Ideal S256x5120 .bf16} {g : Vec Ideal S1x5120 .f32}
    {e d : S2x256x128.Idx → Elt Ideal .f32} {s : Fin 2} (h : Upd w e (srepPieces s x g) d) : ScalesIn d s x g := by
  obtain ⟨f, _, rfl⟩ := h
  intro o r k
  refine (w.read_writes_apply_of_pieces f (fun i => scaleAt x g (i 1)) (srepPieces s x g) ?_ _ ?_).trans ?_
  · unfold srepPieces
    simp only [List.forall_mem_cons]
    exact ⟨srepPiece_eq s x g 128 (by omega), srepPiece_eq s x g 0 (by omega), fun q hq => absurd hq List.not_mem_nil⟩
  · have mem : ∀ (b : ℕ) (hb : b ≤ 128) (hr : b ≤ r.val ∧ r.val < b + 128), (slotRect s).idx (ix3 o r k) ∈ (srepRect s b hb).set := fun b hb hr => by
      refine (LoadRect.mem_set _).2 fun a => ?_
      fin_cases a
      · exact ⟨0, Nat.zero_lt_one, show s.val + 1 * o.val = s.val + 0 + 1 * 0 by omega⟩
      · exact ⟨r.val - b, show r.val - b < 128 by omega, show 0 + 1 * r.val = 0 + b + 1 * (r.val - b) by omega⟩
      · exact ⟨k.val, k.isLt, show 0 + 1 * k.val = 0 + 0 + 1 * k.val by omega⟩
    by_cases hr : r.val < 128
    · exact ⟨_, List.mem_cons_of_mem _ (List.mem_singleton.2 rfl), mem 0 (by omega) (by omega)⟩
    · exact ⟨_, List.mem_cons_self, mem 128 (by omega) (by omega)⟩
  · exact congrArg (scaleAt x g) (Fin.ext (show 0 + 1 * r.val = r.val by omega))

end Cert.KernelIdeal.Gen.Tile

end
-- ==== Proof.KernelIdeal.Heads.lean ====
/- The projection of one tile put together: each result of a point is, index by index, the projection of `Spec`,
   rotated in the first two. -/
module

public import proofs.«01_k».proof.Proof.KernelIdeal.Pieces

@[expose] public section

set_option maxRecDepth 16384

noncomputable section

namespace Cert.KernelIdeal.Gen.Tile

open Idealize.ShloMosaic Idealize.ShloMosaic.TcCoe Cert

/-! ## The tables of the rotation -/

/-- The angle of frequency `j` at row `r` of the tile. -/
def angAt (pos : Vec Ideal S1x1x256 .i32) (fr : Vec Ideal S64x256 .f32) (r : Fin 256) (j : Fin 64) : EReal :=
  FloatOps.sitofp (F := Ideal) .f32 (pos (ix3 0 0 r)) * fr (ix2 j r)

theorem angle_apply (pos : Vec Ideal S1x1x256 .i32) (fr : Vec Ideal S64x256 .f32) (j : Fin 64) (r : Fin 256) :
    angle pos fr (ix2 j r) = angAt pos fr r j := by
  pointwise [angle]
  rfl

def cosAt (pos : Vec Ideal S1x1x256 .i32) (fr : Vec Ideal S64x256 .f32) (r : Fin 256) (k : Fin 128) : EReal :=
  if h : k.val < 64 then Ideal.cos (angAt pos fr r ⟨k.val, h⟩) else Ideal.cos (angAt pos fr r ⟨k.val - 64, by omega⟩)
def sinAt (pos : Vec Ideal S1x1x256 .i32) (fr : Vec Ideal S64x256 .f32) (r : Fin 256) (k : Fin 128) : EReal :=
  if h : k.val < 64 then 0 - Ideal.sin (angAt pos fr r ⟨k.val, h⟩) else Ideal.sin (angAt pos fr r ⟨k.val - 64, by omega⟩)

theorem cosTab_apply (pos : Vec Ideal S1x1x256 .i32) (fr : Vec Ideal S64x256 .f32) (r : Fin 256) (k : Fin 128) :
    cosTab (angle pos fr) (ix3 0 r k) = cosAt pos fr r k := by
  have h : cosTab (angle pos fr) (ix3 0 r k) = if h : k.val < 64 then Ideal.cos (angle pos fr (ix2 ⟨k.val, h⟩ r)) else Ideal.cos (angle pos fr (ix2 ⟨k.val - 64, by omega⟩ r)) := by
    pointwise [cosTab]
  rw [h]; unfold cosAt
  simp only [angle_apply]

theorem sinTab_apply (pos : Vec Ideal S1x1x256 .i32) (fr : Vec Ideal S64x256 .f32) (r : Fin 256) (k : Fin 128) :
    sinTab (angle pos fr) (ix3 0 r k) = sinAt pos fr r k := by
  have h : sinTab (angle pos fr) (ix3 0 r k) = if h : k.val < 64 then 0 - Ideal.sin (angle pos fr (ix2 ⟨k.val, h⟩ r)) else Ideal.sin (angle pos fr (ix2 ⟨k.val - 64, by omega⟩ r)) := by
    pointwise [sinTab]
  rw [h]; unfold sinAt
  simp only [angle_apply]

/-- A slot of the scratch holds a table `f` of the tile. -/
def TabIn (d : S2x256x128.Idx → Elt Ideal .f32) (s : Fin 2) (f : Fin 256 → Fin 128 → EReal) : Prop :=
  ∀ (o : Fin 1) (r : Fin 256) (k : Fin 128), View.ld d (slotRect s) (ix3 o r k) = f r k

theorem Upd.slot {w : View sig .tc .vmem S2x256x128 .f32} {e d : S2x256x128.Idx → Elt Ideal .f32} {s : Fin 2} {T : S1x256x128.Idx → Elt Ideal .f32}
    (h : Upd w e [⟨slotRect s, T⟩] d) : View.ld d (slotRect s) = T := by
  obtain ⟨f, _, rfl⟩ := h
  funext z
  exact w.read_writes_cons_emb f (slotRect s) T [] z

theorem Upd.cosIn {w : View sig .tc .vmem S2x256x128 .f32} {pos : Vec Ideal S1x1x256 .i32} {fr : Vec Ideal S64x256 .f32}
    {e d : S2x256x128.Idx → Elt Ideal .f32} {s : Fin 2} (h : Upd w e (cosPieces s pos fr) d) : TabIn d s (cosAt pos fr) := by
  intro o r k
  obtain rfl : o = 0 := Subsingleton.elim _ _
  exact (congrFun (Upd.slot h) _).trans (cosTab_apply pos fr r k)

theorem Upd.sinIn {w : View sig .tc .vmem S2x256x128 .f32} {pos : Vec Ideal S1x1x256 .i32} {fr : Vec Ideal S64x256 .f32}
    {e d : S2x256x128.Idx → Elt Ideal .f32} {s : Fin 2} (h : Upd w e (sinPieces s pos fr) d) : TabIn d s (sinAt pos fr) := by
  intro o r k
  obtain rfl : o = 0 := Subsingleton.elim _ _
  exact (congrFun (Upd.slot h) _).trans (sinTab_apply pos fr r k)

/-! ## The heads -/

/-- Column `c` of the weights and its scale. -/
def colOf (w : Vec Ideal S5120x3840 .fp8e4m3) (c : Fin 3840) (i : Fin 5120) : EReal := w (ix2 i c)

/-- Lane `k` of head `n` of part `q` of the projection of row `r`. -/
def projAt (x : Vec Ideal S256x5120 .bf16) (g : Vec Ideal S1x5120 .f32) (w : Vec Ideal S5120x3840 .fp8e4m3) (ws : Vec Ideal S1x3840 .f32)
    (q : Fin 3) (r : Fin 256) (n : Fin 10) (k : Fin 128) : EReal :=
  Spec.proj (rowOf x r) (gainOf g) (colOf w ⟨1280 * q.val + 128 * n.val + k.val, by omega⟩) (ws (ix2 0 ⟨1280 * q.val + 128 * n.val + k.val, by omega⟩))

def ropeAt (x : Vec Ideal S256x5120 .bf16) (g : Vec Ideal S1x5120 .f32) (w : Vec Ideal S5120x3840 .fp8e4m3) (ws : Vec Ideal S1x3840 .f32)
    (pos : Vec Ideal S1x1x256 .i32) (fr : Vec Ideal S64x256 .f32) (q : Fin 3) (r : Fin 256) (n : Fin 10) (k : Fin 128) : EReal :=
  Spec.rope (projAt x g w ws q r n) (angAt pos fr r) k

section
variable {x : Vec Ideal S256x5120 .bf16} {g : Vec Ideal S1x5120 .f32} {w : Vec Ideal S5120x3840 .fp8e4m3} {ws : Vec Ideal S1x3840 .f32}
  {pos : Vec Ideal S1x1x256 .i32} {fr : Vec Ideal S64x256 .f32}
  {d1 : S2x256x5120.Idx → Elt Ideal .fp8e4m3} {d2 d3 d4 : S2x256x128.Idx → Elt Ideal .f32} {s : Fin 2}

theorem y0_apply (h1 : CodesIn d1 s x g) (h2 : ScalesIn d2 s x g) (q : Fin 3) (i : Fin 5) (r : Fin 256) (k : Fin 128) :
    y0 (View.ld d1 (slotRectC s)) (View.ld d2 (slotRect s)) w ws q i (ix2 r k) = projAt x g w ws q r ⟨2 * i.val, by omega⟩ k := by
  have h : y0 (View.ld d1 (slotRectC s)) (View.ld d2 (slotRect s)) w ws q i (ix2 r k)
      = (∑ c : Fin 5120, View.ld d1 (slotRectC s) (ix3 (n0 := 1) 0 r c) * w (ix2 c ⟨256 * (5 * q.val + i.val) + k.val, by omega⟩))
        * View.ld d2 (slotRect s) (ix3 (n0 := 1) 0 r k) * ws (ix2 0 ⟨128 * (2 * (5 * q.val + i.val)) + k.val, by omega⟩) := by
    generalize View.ld d1 (slotRectC s) = C
    generalize View.ld d2 (slotRect s) = S
    pointwise [y0, acc, wscale]
  rw [h, h2]
  simp only [h1 0 r]
  have e1 : (⟨256 * (5 * q.val + i.val) + k.val, by omega⟩ : Fin 3840) = ⟨1280 * q.val + 128 * (2 * i.val) + k.val, by omega⟩ := Fin.ext (by simp only; omega)
  have e2 : (⟨128 * (2 * (5 * q.val + i.val)) + k.val, by omega⟩ : Fin 3840) = ⟨1280 * q.val + 128 * (2 * i.val) + k.val, by omega⟩ := Fin.ext (by simp only; omega)
  rw [e1, e2]
  rfl

theorem y1_apply (h1 : CodesIn d1 s x g) (h2 : ScalesIn d2 s x g) (q : Fin 3) (i : Fin 5) (r : Fin 256) (k : Fin 128) :
    y1 (View.ld d1 (slotRectC s)) (View.ld d2 (slotRect s)) w ws q i (ix2 r k) = projAt x g w ws q r ⟨2 * i.val + 1, by omega⟩ k := by
  have h : y1 (View.ld d1 (slotRectC s)) (View.ld d2 (slotRect s)) w ws q i (ix2 r k)
      = (∑ c : Fin 5120, View.ld d1 (slotRectC s) (ix3 (n0 := 1) 0 r c) * w (ix2 c ⟨256 * (5 * q.val + i.val) + (128 + k.val), by omega⟩))
        * View.ld d2 (slotRect s) (ix3 (n0 := 1) 0 r k) * ws (ix2 0 ⟨128 * (2 * (5 * q.val + i.val) + 1) + k.val, by omega⟩) := by
    generalize View.ld d1 (slotRectC s) = C
    generalize View.ld d2 (slotRect s) = S
    pointwise [y1, acc, wscale]
  rw [h, h2]
  simp only [h1 0 r]
  have e1 : (⟨256 * (5 * q.val + i.val) + (128 + k.val), by omega⟩ : Fin 3840) = ⟨1280 * q.val + 128 * (2 * i.val + 1) + k.val, by omega⟩ := Fin.ext (by simp only; omega)
  have e2 : (⟨128 * (2 * (5 * q.val + i.val) + 1) + k.val, by omega⟩ : Fin 3840) = ⟨1280 * q.val + 128 * (2 * i.val + 1) + k.val, by omega⟩ := Fin.ext (by simp only; omega)
  rw [e1, e2]
  rfl

theorem roped_apply (h3 : TabIn d3 s (cosAt pos fr)) (h4 : TabIn d4 s (sinAt pos fr)) (y : FVec Ideal S256x128 .f32) (Y : Fin 128 → EReal) (r : Fin 256)
    (hy : ∀ k, y (ix2 r k) = Y k) (k : Fin 128) :
    roped (View.ld d3 (slotRect s)) (View.ld d4 (slotRect s)) y (ix2 r k) = Spec.rope Y (angAt pos fr r) k := by
  have h : roped (View.ld d3 (slotRect s)) (View.ld d4 (slotRect s)) y (ix2 r k)
      = y (ix2 r k) * View.ld d3 (slotRect s) (ix3 (n0 := 1) 0 r k) + y (ix2 r ⟨(k.val + 128 - 64) % 128, Nat.mod_lt _ (by omega)⟩) * View.ld d4 (slotRect s) (ix3 (n0 := 1) 0 r k) := by
    generalize View.ld d3 (slotRect s) = co
    generalize View.ld d4 (slotRect s) = si
    pointwise [roped]
  rw [h, h3, h4, hy, hy]
  unfold Spec.rope cosAt sinAt
  by_cases hk : k.val < 64
  · simp only [dif_pos hk]
    have e : (⟨(k.val + 128 - 64) % 128, Nat.mod_lt _ (by omega)⟩ : Fin 128) = ⟨k.val + 64, by omega⟩ := Fin.ext (by simp only; omega)
    rw [e, zero_sub, mul_neg, sub_eq_add_neg]
  · simp only [dif_neg hk]
    have e : (⟨(k.val + 128 - 64) % 128, Nat.mod_lt _ (by omega)⟩ : Fin 128) = ⟨k.val - 64, by omega⟩ := Fin.ext (by simp only; omega)
    rw [e]

end

theorem headPiece_eq (G : Fin 256 → Fin 10 → Fin 128 → EReal) (n : Fin 10) (p : FVec Ideal S256x128 .f32) (hp : ∀ r k, p (ix2 r k) = G r n k) (z : S1x1x256x128.Idx) :
    (headPiece n p).2 z = (fun i : S1x10x256x128.Idx => (G (i 2) (i 1) (i 3) : Elt Ideal .bf16)) ((headPiece n p).1.emb z) := by
  obtain ⟨o, o', r, k, rfl⟩ : ∃ o o' r k, z = ix4 o o' r k := ⟨_, _, _, _, eq_ix4 z⟩
  obtain rfl : o = 0 := Subsingleton.elim _ _
  obtain rfl : o' = 0 := Subsingleton.elim _ _
  have h : stored p (ix4 0 0 r k) = p (ix2 r k) := by pointwise [stored]
  refine h.trans ((hp r k).trans ?_)
  have e1 : (headPiece n p).1.emb (ix4 (n0 := 1) (n1 := 1) (n2 := 256) (n3 := 128) 0 0 r k) 1 = n := Fin.ext (show n.val + 1 * 0 = n.val by omega)
  have e2 : (headPiece n p).1.emb (ix4 (n0 := 1) (n1 := 1) (n2 := 256) (n3 := 128) 0 0 r k) 2 = r := Fin.ext (show 0 + 1 * r.val = r.val by omega)
  have e3 : (headPiece n p).1.emb (ix4 (n0 := 1) (n1 := 1) (n2 := 256) (n3 := 128) 0 0 r k) 3 = k := Fin.ext (show 0 + 1 * k.val = k.val by omega)
  show G r n k = G _ _ _
  rw [e1, e2, e3]

theorem Upd.heads {v : View sig .tc .vmem S1x10x256x128 .bf16} {f0 f1 : Fin 5 → FVec Ideal S256x128 .f32} {e d : S1x10x256x128.Idx → Elt Ideal .bf16}
    (h : Upd v e (headPieces f0 f1) d) (G : Fin 256 → Fin 10 → Fin 128 → EReal)
    (h0 : ∀ (i : Fin 5) r k, f0 i (ix2 r k) = G r ⟨2 * i.val, by omega⟩ k) (h1 : ∀ (i : Fin 5) r k, f1 i (ix2 r k) = G r ⟨2 * i.val + 1, by omega⟩ k) :
    d = fun i => G (i 2) (i 1) (i 3) := by
  obtain ⟨f, _, rfl⟩ := h
  refine funext fun y => v.read_writes_apply_of_pieces f (fun i => G (i 2) (i 1) (i 3)) _ ?_ y ?_
  · unfold headPieces
    simp only [List.forall_mem_cons]
    exact ⟨headPiece_eq G 9 _ (h1 4), headPiece_eq G 8 _ (h0 4), headPiece_eq G 7 _ (h1 3), headPiece_eq G 6 _ (h0 3), headPiece_eq G 5 _ (h1 2),
      headPiece_eq G 4 _ (h0 2), headPiece_eq G 3 _ (h1 1), headPiece_eq G 2 _ (h0 1), headPiece_eq G 1 _ (h1 0), headPiece_eq G 0 _ (h0 0),
      fun q hq => absurd hq List.not_mem_nil⟩
  · have mem : ∀ n : Fin 10, ∃ p, headPiece n p ∈ headPieces f0 f1 := by
      unfold headPieces
      intro n
      fin_cases n <;> simp only [List.mem_cons]
      exacts [⟨f0 0, by tauto⟩, ⟨f1 0, by tauto⟩, ⟨f0 1, by tauto⟩, ⟨f1 1, by tauto⟩, ⟨f0 2, by tauto⟩, ⟨f1 2, by tauto⟩, ⟨f0 3, by tauto⟩, ⟨f1 3, by tauto⟩, ⟨f0 4, by tauto⟩, ⟨f1 4, by tauto⟩]
    obtain ⟨p, hp⟩ := mem (y 1)
    refine ⟨_, hp, ?_⟩
    have b0 : (y 0).val < 1 := (y 0).isLt
    have b2 : (y 2).val < 256 := (y 2).isLt
    have b3 : (y 3).val < 128 := (y 3).isLt
    simp only [headPiece, Rect.mem_set_unit]; intro a
    fin_cases a
    · exact ⟨Nat.zero_le _, show (y 0).val < 0 + 1 by omega⟩
    · exact ⟨le_refl _, show (y 1).val < (y 1).val + 1 by omega⟩
    · exact ⟨Nat.zero_le _, show (y 2).val < 0 + 256 by omega⟩
    · exact ⟨Nat.zero_le _, show (y 3).val < 0 + 128 by omega⟩

/-- What the scratch holds of a tile in slot `s`. -/
structure Holds (d1 : S2x256x5120.Idx → Elt Ideal .fp8e4m3) (d2 d3 d4 : S2x256x128.Idx → Elt Ideal .f32) (s : Fin 2)
    (x : Vec Ideal S256x5120 .bf16) (g : Vec Ideal S1x5120 .f32) (pos : Vec Ideal S1x1x256 .i32) (fr : Vec Ideal S64x256 .f32) : Prop where
  codes : CodesIn d1 s x g
  scales : ScalesIn d2 s x g
  cos : TabIn d3 s (cosAt pos fr)
  sin : TabIn d4 s (sinAt pos fr)

section
variable {u : View sig .tc .vmem S1x10x256x128 .bf16} {x : Vec Ideal S256x5120 .bf16} {g : Vec Ideal S1x5120 .f32} {w : Vec Ideal S5120x3840 .fp8e4m3} {ws : Vec Ideal S1x3840 .f32}
  {pos : Vec Ideal S1x1x256 .i32} {fr : Vec Ideal S64x256 .f32}
  {d1 : S2x256x5120.Idx → Elt Ideal .fp8e4m3} {d2 d3 d4 : S2x256x128.Idx → Elt Ideal .f32} {s : Fin 2} {e d : S1x10x256x128.Idx → Elt Ideal .bf16}

theorem Upd.q (H : Holds d1 d2 d3 d4 s x g pos fr)
    (h : Upd u e (qPieces (View.ld d1 (slotRectC s)) (View.ld d2 (slotRect s)) (View.ld d3 (slotRect s)) (View.ld d4 (slotRect s)) w ws) d) :
    d = fun i => ropeAt x g w ws pos fr 0 (i 2) (i 1) (i 3) :=
  Upd.heads h (ropeAt x g w ws pos fr 0)
    (fun i r k => roped_apply H.cos H.sin _ _ r (fun k => y0_apply H.codes H.scales 0 i r k) k)
    (fun i r k => roped_apply H.cos H.sin _ _ r (fun k => y1_apply H.codes H.scales 0 i r k) k)
theorem Upd.k (H : Holds d1 d2 d3 d4 s x g pos fr)
    (h : Upd u e (kPieces (View.ld d1 (slotRectC s)) (View.ld d2 (slotRect s)) (View.ld d3 (slotRect s)) (View.ld d4 (slotRect s)) w ws) d) :
    d = fun i => ropeAt x g w ws pos fr 1 (i 2) (i 1) (i 3) :=
  Upd.heads h (ropeAt x g w ws pos fr 1)
    (fun i r k => roped_apply H.cos H.sin _ _ r (fun k => y0_apply H.codes H.scales 1 i r k) k)
    (fun i r k => roped_apply H.cos H.sin _ _ r (fun k => y1_apply H.codes H.scales 1 i r k) k)
theorem Upd.v (H : Holds d1 d2 d3 d4 s x g pos fr)
    (h : Upd u e (vPieces (View.ld d1 (slotRectC s)) (View.ld d2 (slotRect s)) w ws) d) :
    d = fun i => projAt x g w ws 2 (i 2) (i 1) (i 3) :=
  Upd.heads h (projAt x g w ws 2) (fun i r k => y0_apply H.codes H.scales 2 i r k) (fun i r k => y1_apply H.codes H.scales 2 i r k)
end

end Cert.KernelIdeal.Gen.Tile

end
-- ==== Proof.KernelIdeal.Sound.lean ====
/- The run of the program with its results named: after point `t` the codes and the scales of tile `t` are in their
   windows, and the projection of tile `t - 1` in its three; between points the scratch holds the last tile quantised. -/
module

public import proofs.«01_k».proof.Proof.KernelIdeal.Runs
public import proofs.«01_k».proof.Proof.KernelIdeal.ValueA
public import proofs.«01_k».proof.Proof.KernelIdeal.ValueB
public import proofs.«01_k».proof.Proof.KernelIdeal.ValueC
public import proofs.«01_k».proof.Proof.KernelIdeal.ValueD
public import proofs.«01_k».proof.Proof.KernelIdeal.Heads
public import Idealize.ShloMosaic.Lib.Claim
public import Idealize.ShloMosaic.Lib.Pipeline.TableIdle

@[expose] public section

set_option maxRecDepth 16384

noncomputable section

namespace Cert.KernelIdeal.Gen.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## Points, tiles and slots -/

/-- The point before. -/
abbrev prv (t : Fin cfg0.N) : Fin cfg0.N := ⟨t.val - 1, by omega⟩
/-- The tile quantised last at position `n`. -/
abbrev sv (n : ℕ) : Fin cfg0.N := ⟨min n 63, lt_of_lt_of_eq (show min n 63 < 65 by omega) N_0.symm⟩
/-- The slot it is in. -/
abbrev slotAt (n : ℕ) : Fin 2 := ⟨min n 63 % 2, by omega⟩

/-- The projections of the tile before, in the layout of a window. -/
def qBlk (c : Dev nD) (t : Fin cfg0.N) : S1x10x256x128.Idx → Elt Ideal .bf16 := fun i =>
  Tile.ropeAt (iblk m c 0 (prv t)) (iblk m c 1 (prv t)) (iblk m c 2 t) (iblk m c 3 t) (iblk m c 4 (prv t)) (iblk m c 5 (prv t)) 0 (i 2) (i 1) (i 3)
def kBlk (c : Dev nD) (t : Fin cfg0.N) : S1x10x256x128.Idx → Elt Ideal .bf16 := fun i =>
  Tile.ropeAt (iblk m c 0 (prv t)) (iblk m c 1 (prv t)) (iblk m c 2 t) (iblk m c 3 t) (iblk m c 4 (prv t)) (iblk m c 5 (prv t)) 1 (i 2) (i 1) (i 3)
def vBlk (c : Dev nD) (t : Fin cfg0.N) : S1x10x256x128.Idx → Elt Ideal .bf16 := fun i =>
  Tile.projAt (iblk m c 0 (prv t)) (iblk m c 1 (prv t)) (iblk m c 2 t) (iblk m c 3 t) 2 (i 2) (i 1) (i 3)
/-- The codes and the scales of the tile quantised. -/
def cBlk (c : Dev nD) (t : Fin cfg0.N) : S256x5120.Idx → Elt Ideal .fp8e4m3 := Tile.codeG (iblk m c 0 (sv t.val)) (iblk m c 1 (sv t.val))
def sBlk (c : Dev nD) (t : Fin cfg0.N) : S1x1x256.Idx → Elt Ideal .f32 := fun i => Tile.scaleAt (iblk m c 0 (sv t.val)) (iblk m c 1 (sv t.val)) (i 2)

/-- The scratch holds the tile quantised last at position `n`. -/
def Held (c : Dev nD) (n : ℕ) (d1 : S2x256x5120.Idx → Elt Ideal .fp8e4m3) (d2 d3 d4 : S2x256x128.Idx → Elt Ideal .f32) : Prop :=
  Tile.Holds d1 d2 d3 d4 (slotAt n) (iblk m c 0 (sv n)) (iblk m c 1 (sv n)) (iblk m c 4 (sv n)) (iblk m c 5 (sv n))

/-- The invariant before position `n`. -/
def PhiS (c : Dev nD) : ℕ → sProp 𝕄
  | 0 => Pipeline.ΦA spec0 c
  | n + 1 => iprop(iprop((∃ d, owns (c : Thread nD τ) scM0_0 fullShare d)
      ∗ (∃ d1 d2 d3 d4, ⌜Held m c n d1 d2 d3 d4⌝ ∗ owns (c : Thread nD τ) scM0_1 fullShare d1 ∗ owns (c : Thread nD τ) scM0_2 fullShare d2
          ∗ owns (c : Thread nD τ) scM0_3 fullShare d3 ∗ owns (c : Thread nD τ) scM0_4 fullShare d4)) ∗ (∃ r, prngReg c r))

theorem PhiS_pos (c : Dev nD) (n : ℕ) (h : n ≠ 0) :
    PhiS m c n = iprop(iprop((∃ d, owns (c : Thread nD τ) scM0_0 fullShare d)
      ∗ (∃ d1 d2 d3 d4, ⌜Held m c (n - 1) d1 d2 d3 d4⌝ ∗ owns (c : Thread nD τ) scM0_1 fullShare d1 ∗ owns (c : Thread nD τ) scM0_2 fullShare d2
          ∗ owns (c : Thread nD τ) scM0_3 fullShare d3 ∗ owns (c : Thread nD τ) scM0_4 fullShare d4)) ∗ (∃ r, prngReg c r)) := by
  obtain _ | n := n
  · exact absurd rfl h
  · rfl

/-! ## The proof data -/

def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => qBlk m c t
    | ⟨7, _⟩ => kBlk m c t
    | ⟨8, _⟩ => vBlk m c t
    | ⟨9, _⟩ => cBlk m c t
    | ⟨10, _⟩ => sBlk m c t
  Φ t := PhiS m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = qBlk m c t := by dsimp only [dats]
theorem after0_7 (c : Dev nD) (t : Fin cfg0.N) : (dats m 0 c).after 7 t = kBlk m c t := by dsimp only [dats]
theorem after0_8 (c : Dev nD) (t : Fin cfg0.N) : (dats m 0 c).after 8 t = vBlk m c t := by dsimp only [dats]
theorem after0_9 (c : Dev nD) (t : Fin cfg0.N) : (dats m 0 c).after 9 t = cBlk m c t := by dsimp only [dats]
theorem after0_10 (c : Dev nD) (t : Fin cfg0.N) : (dats m 0 c).after 10 t = sBlk m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## Where the results' windows are idle, and where they are written back -/

theorem idle0_6 : ∀ t : Fin cfg0.N, cfg0.idle 6 (cfg0.grid.coords t) = decide (t.val = 0) :=
  (by decide +kernel : ∀ t : Fin grid0.N, idle0 6 (grid0.coords t) = decide (t.val = 0))
theorem idle0_7 : ∀ t : Fin cfg0.N, cfg0.idle 7 (cfg0.grid.coords t) = decide (t.val = 0) := idle0_6
theorem idle0_8 : ∀ t : Fin cfg0.N, cfg0.idle 8 (cfg0.grid.coords t) = decide (t.val = 0) := idle0_6
theorem idle0_9 : ∀ t : Fin cfg0.N, cfg0.idle 9 (cfg0.grid.coords t) = decide (t.val = 64) :=
  (by decide +kernel : ∀ t : Fin grid0.N, idle0 9 (grid0.coords t) = decide (t.val = 64))
theorem idle0_10 : ∀ t : Fin cfg0.N, cfg0.idle 10 (cfg0.grid.coords t) = decide (t.val = 64) := idle0_9
theorem flush0_6 : ∀ t : Fin cfg0.N, (cfg0.win 6).flush t = decide (t.val ≠ 0) :=
  (by decide +kernel : ∀ t : Fin grid0.N, win0_6.flush t = decide (t.val ≠ 0))
theorem flush0_7 : ∀ t : Fin cfg0.N, (cfg0.win 7).flush t = decide (t.val ≠ 0) :=
  (by decide +kernel : ∀ t : Fin grid0.N, win0_7.flush t = decide (t.val ≠ 0))
theorem flush0_8 : ∀ t : Fin cfg0.N, (cfg0.win 8).flush t = decide (t.val ≠ 0) :=
  (by decide +kernel : ∀ t : Fin grid0.N, win0_8.flush t = decide (t.val ≠ 0))
theorem flush0_9 : ∀ t : Fin cfg0.N, (cfg0.win 9).flush t = decide (t.val ≠ 63) :=
  (by decide +kernel : ∀ t : Fin grid0.N, win0_9.flush t = decide (t.val ≠ 63))
theorem flush0_10 : ∀ t : Fin cfg0.N, (cfg0.win 10).flush t = decide (t.val ≠ 63) :=
  (by decide +kernel : ∀ t : Fin grid0.N, win0_10.flush t = decide (t.val ≠ 63))

/-- The condition of the second branch, from its points. -/
theorem cond0_1_even : ∀ t : Fin cfg0.N, t.val % 2 = 0 → t.val ≠ 0 → t.val ≠ 64 → cond0_1 (grid0.coords t) :=
  (by decide +kernel : ∀ t : Fin grid0.N, t.val % 2 = 0 → t.val ≠ 0 → t.val ≠ 64 → cond0_1 (grid0.coords t))

theorem sv_of {n : ℕ} {t : Fin cfg0.N} (h : min n 63 = t.val) : sv n = t := Fin.ext h

section last
variable (c : Dev nD) (t : Fin cfg0.N)

/-- A window written at every point but the last is, at the last, what the point before left. -/
theorem before_last (w : Fin cfg0.W) (hw : (cfg0.win w).isOut = true) (hclip : ∀ (i : cfg0.grid.Coords) a, (cfg0.win w).clip i a = none)
    (hi : ∀ t : Fin cfg0.N, cfg0.idle w (cfg0.grid.coords t) = decide (t.val = 64)) (hf : ∀ t : Fin cfg0.N, (cfg0.win w).flush t = decide (t.val ≠ 63))
    (ha : ∀ t : Fin cfg0.N, t.val = 64 → (dats m 0 c).after w t = (dats m 0 c).after w (prv t)) (ht : t.val = 64) (d) :
    (dats m 0 c).before w t d = (dats m 0 c).after w t := by
  rw [Dat.before_out_traj (dats m 0 c) w hw hclip (fun t _ h _ => ha t (by rw [hi t] at h; simpa using h)) t.val t rfl d, ha t ht]
  have h63 : (63 : ℕ) < cfg0.N := lt_of_lt_of_eq (by norm_num) N_0.symm
  have hfr : cfg0.fresh w t.val = false := by
    rw [ht, Cfg.fresh_succ cfg0 w 63 h63, hf ⟨63, h63⟩, hi ⟨63, h63⟩]; rfl
  rw [hfr, if_neg Bool.false_ne_true]

theorem before0_9 (ht : t.val = 64) (d) : (dats m 0 c).before 9 t d = cBlk m c t :=
  (before_last m c t 9 rfl (fun _ _ => rfl) idle0_9 flush0_9 (fun t h => by
    rw [after0_9, after0_9]; unfold cBlk; rw [show sv (prv t).val = sv t.val from Fin.ext (show min (t.val - 1) 63 = min t.val 63 by omega)]) ht d).trans (after0_9 m c t)
theorem before0_10 (ht : t.val = 64) (d) : (dats m 0 c).before 10 t d = sBlk m c t :=
  (before_last m c t 10 rfl (fun _ _ => rfl) idle0_10 flush0_10 (fun t h => by
    rw [after0_10, after0_10]; unfold sBlk; rw [show sv (prv t).val = sv t.val from Fin.ext (show min (t.val - 1) 63 = min t.val 63 by omega)]) ht d).trans (after0_10 m c t)
end last

/-- What a window's buffer is left at: at a point where it is written, its block; -/
theorem leaves_live (c : Dev nD) (w : Fin cfg0.W) (t : Fin cfg0.N) (h : cfg0.idle w (cfg0.grid.coords t) = false) :
    (dats m 0 c).leavesExact w t = owns (c : Thread nD τ) ((cfg0.win w).stage (cfg0.slots t w)) fullShare ((dats m 0 c).after w t) := by
  unfold Dat.leavesExact; rw [h]
/-- at one where it is not but is written back, its block. -/
theorem leaves_flush (c : Dev nD) (w : Fin cfg0.W) (t : Fin cfg0.N) (h : cfg0.idle w (cfg0.grid.coords t) = true) (hf : (cfg0.win w).flush t = true) :
    (dats m 0 c).leavesExact w t = owns (c : Thread nD τ) ((cfg0.win w).stage (cfg0.slots t w)) fullShare ((dats m 0 c).after w t) := by
  unfold Dat.leavesExact; rw [h, hf]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

theorem at_castSucc {α : Sort _} {N : ℕ} (S : ℕ → α) (t : Fin N) : S (Fin.castSucc t).val = S t.val := rfl
theorem at_succ {α : Sort _} {N : ℕ} (S : ℕ → α) (t : Fin N) : S (Fin.succ t).val = S (t.val + 1) := rfl

theorem Phi_pre (c : Dev nD) (t : Fin cfg0.N) : (dats m 0 c).Φ t.castSucc = PhiS m c t.val := by
  dsimp only [dats]; exact at_castSucc (PhiS m c) t
theorem Phi_post (c : Dev nD) (t : Fin cfg0.N) : (dats m 0 c).Φ t.succ = PhiS m c (t.val + 1) := by
  dsimp only [dats]; exact at_succ (PhiS m c) t

theorem leaves_in (c : Dev nD) (t : Fin cfg0.N) :
    (dats m 0 c).leavesExact 0 t = owns (c : Thread nD τ) (ms0_0 t) fullShare (iblk m c 0 t)
    ∧ (dats m 0 c).leavesExact 1 t = owns (c : Thread nD τ) (ms0_1 t) fullShare (iblk m c 1 t)
    ∧ (dats m 0 c).leavesExact 2 t = owns (c : Thread nD τ) (ms0_2 t) fullShare (iblk m c 2 t)
    ∧ (dats m 0 c).leavesExact 3 t = owns (c : Thread nD τ) (ms0_3 t) fullShare (iblk m c 3 t)
    ∧ (dats m 0 c).leavesExact 4 t = owns (c : Thread nD τ) (ms0_4 t) fullShare (iblk m c 4 t)
    ∧ (dats m 0 c).leavesExact 5 t = owns (c : Thread nD τ) (ms0_5 t) fullShare (iblk m c 5 t) :=
  ⟨by rw [leaves_live m c 0 t (liveAt0_0 t), after0_0], by rw [leaves_live m c 1 t (liveAt0_1 t), after0_1],
   by rw [leaves_live m c 2 t (liveAt0_2 t), after0_2], by rw [leaves_live m c 3 t (liveAt0_3 t), after0_3],
   by rw [leaves_live m c 4 t (liveAt0_4 t), after0_4], by rw [leaves_live m c 5 t (liveAt0_5 t), after0_5]⟩

theorem leaves_proj (c : Dev nD) (t : Fin cfg0.N) (h : t.val ≠ 0) :
    (dats m 0 c).leavesExact 6 t = owns (c : Thread nD τ) (ms0_6 t) fullShare (qBlk m c t)
    ∧ (dats m 0 c).leavesExact 7 t = owns (c : Thread nD τ) (ms0_7 t) fullShare (kBlk m c t)
    ∧ (dats m 0 c).leavesExact 8 t = owns (c : Thread nD τ) (ms0_8 t) fullShare (vBlk m c t) :=
  ⟨by rw [leaves_live m c 6 t ((idle0_6 t).trans (decide_eq_false h)), after0_6], by rw [leaves_live m c 7 t ((idle0_7 t).trans (decide_eq_false h)), after0_7],
   by rw [leaves_live m c 8 t ((idle0_8 t).trans (decide_eq_false h)), after0_8]⟩

theorem leaves_codes (c : Dev nD) (t : Fin cfg0.N) :
    (dats m 0 c).leavesExact 9 t = owns (c : Thread nD τ) (ms0_9 t) fullShare (cBlk m c t)
    ∧ (dats m 0 c).leavesExact 10 t = owns (c : Thread nD τ) (ms0_10 t) fullShare (sBlk m c t) := by
  by_cases h : t.val = 64
  · exact ⟨by rw [leaves_flush m c 9 t ((idle0_9 t).trans (decide_eq_true h)) ((flush0_9 t).trans (decide_eq_true (by omega))), after0_9],
      by rw [leaves_flush m c 10 t ((idle0_10 t).trans (decide_eq_true h)) ((flush0_10 t).trans (decide_eq_true (by omega))), after0_10]⟩
  · exact ⟨by rw [leaves_live m c 9 t ((idle0_9 t).trans (decide_eq_false h)), after0_9], by rw [leaves_live m c 10 t ((idle0_10 t).trans (decide_eq_false h)), after0_10]⟩

set_option maxHeartbeats 6400000 in
theorem sound_A (c : Dev nD) (t : Fin cfg0.N) (ht : t.val = 0) :
    bodyPre m c t ⊢ wp frame (wpE (defs₀ (F := Ideal)) Variants.none c none) Set.univ (bodyAt0 t) (fun _ => bodyPost m c t) := by
  have hs : sv t.val = t := sv_of (by omega)
  have hl : slotAt t.val = 0 := Fin.ext (show min t.val 63 % 2 = 0 by omega)
  obtain ⟨l0, l1, l2, l3, l4, l5⟩ := leaves_in m c t
  obtain ⟨l9, l10⟩ := leaves_codes m c t
  have l6 := Dat.leavesExact_idle (dats m 0 c) 6 t ((idle0_6 t).trans (decide_eq_true ht)) ((flush0_6 t).trans (decide_eq_false (not_not.2 ht)))
  have l7 := Dat.leavesExact_idle (dats m 0 c) 7 t ((idle0_7 t).trans (decide_eq_true ht)) ((flush0_7 t).trans (decide_eq_false (not_not.2 ht)))
  have l8 := Dat.leavesExact_idle (dats m 0 c) 8 t ((idle0_8 t).trans (decide_eq_true ht)) ((flush0_8 t).trans (decide_eq_false (not_not.2 ht)))
  have b6 : ∀ d, (dats m 0 c).before 6 t d = d := fun d => by
    unfold Dat.before; rw [if_neg (by rw [(cfg0.win 6).fetch_out rfl]; exact Bool.false_ne_true), if_pos ht]
  have b7 : ∀ d, (dats m 0 c).before 7 t d = d := fun d => by
    unfold Dat.before; rw [if_neg (by rw [(cfg0.win 7).fetch_out rfl]; exact Bool.false_ne_true), if_pos ht]
  have b8 : ∀ d, (dats m 0 c).before 8 t d = d := fun d => by
    unfold Dat.before; rw [if_neg (by rw [(cfg0.win 8).fetch_out rfl]; exact Bool.false_ne_true), if_pos ht]
  unfold bodyPre bodyPost bodyAt0
  rw [l0, l1, l2, l3, l4, l5, l6, l7, l8, l9, l10, Phi_pre, Phi_post, PhiS_pos m c (t.val + 1) (by omega), Nat.add_sub_cancel,
    show PhiS m c t.val = PhiS m c 0 from by rw [ht], show PhiS m c 0 = Pipeline.ΦA spec0 c from rfl, PhiA0_eq,
    show (dats m 0 c).owesAt () t.succ = (dats m 0 c).owesAt () t.castSucc from rfl]
  simp only [before0_0, before0_1, before0_2, before0_3, before0_4, before0_5, b6, b7, b8]
  iintro ⟨⟨⟨HS0, ⟨%s1, HS1⟩, ⟨%s2, HS2⟩, ⟨%s3, HS3⟩, ⟨%s4, HS4⟩⟩, Hg⟩, Ho, ⟨%d0, H0⟩, ⟨%d1, H1⟩, ⟨%d2, H2⟩, ⟨%d3, H3⟩, ⟨%d4, H4⟩, ⟨%d5, H5⟩, H6, H7, H8, ⟨%d9, H9⟩, ⟨%d10, H10⟩⟩
  iapply ((valueRun0_A c (grid0.coords t) _ _ _ _ _ _ _ _ _ _ _ _ _ _ _ _ _ _ _ _ _ _ _ _ _ _ _ _ _ _ _ _ ((hcond0_0 t).mpr (by omega)) (fun h => by have := (hcond0_1 t).mp h; omega) (fun h => by have := (hcond0_2 t).mp h; omega) (fun h => by have := (hcond0_3 t).mp h; omega) (iblk m c 0 t) (iblk m c 1 t) (iblk m c 2 t) (iblk m c 3 t) (iblk m c 4 t) (iblk m c 5 t)
    (cBlk m c t) (sBlk m c t) s1 s2 s3 s4) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, ⟨%e9, %o9, %h9, H9⟩, ⟨%e10, %o10, %h10, H10⟩, HS0, ⟨%n1, %g1, HS1⟩, ⟨%n2, %g2, HS2⟩, ⟨%n3, %g3, HS3⟩, ⟨%n4, %g4, HS4⟩⟩
  have E9 : o9 = cBlk m c t := (Tile.Upd.codes h9).trans (by unfold cBlk; rw [hs])
  have E10 : o10 = sBlk m c t := (Tile.Upd.scales h10).trans (by unfold sBlk; rw [hs])
  have HH : Held m c t.val n1 n2 n3 n4 := by
    unfold Held; rw [hs, hl]; exact ⟨Tile.Upd.codesIn g1, Tile.Upd.scalesIn g2, Tile.Upd.cosIn g3, Tile.Upd.sinIn g4⟩
  subst E9 E10
  isplitl [HS0 HS1 HS2 HS3 HS4 Hg]
  · isplitl [HS0 HS1 HS2 HS3 HS4]
    · isplitl [HS0]
      · iexact HS0
      iexists n1, n2, n3, n4
      isplitr; · ipureintro; exact HH
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 6400000 in
theorem sound_B (c : Dev nD) (t : Fin cfg0.N) (ht : t.val % 2 = 1) :
    bodyPre m c t ⊢ wp frame (wpE (defs₀ (F := Ideal)) Variants.none c none) Set.univ (bodyAt0 t) (fun _ => bodyPost m c t) := by
  have hN : t.val < 65 := lt_of_lt_of_eq t.isLt N_0
  have hs' : sv (t.val - 1) = prv t := sv_of (show min (t.val - 1) 63 = t.val - 1 by omega)
  have hl' : slotAt (t.val - 1) = 0 := Fin.ext (show min (t.val - 1) 63 % 2 = 0 by omega)
  have hs : sv t.val = t := sv_of (by omega)
  have hl : slotAt t.val = 1 := Fin.ext (show min t.val 63 % 2 = 1 by omega)
  obtain ⟨l0, l1, l2, l3, l4, l5⟩ := leaves_in m c t
  obtain ⟨l6, l7, l8⟩ := leaves_proj m c t (by omega)
  obtain ⟨l9, l10⟩ := leaves_codes m c t
  unfold bodyPre bodyPost bodyAt0
  rw [l0, l1, l2, l3, l4, l5, l6, l7, l8, l9, l10, Phi_pre, Phi_post, PhiS_pos m c t.val (by omega), PhiS_pos m c (t.val + 1) (by omega), Nat.add_sub_cancel,
    show (dats m 0 c).owesAt () t.succ = (dats m 0 c).owesAt () t.castSucc from rfl]
  simp only [before0_0, before0_1, before0_2, before0_3, before0_4, before0_5]
  iintro ⟨⟨⟨HS0, ⟨%s1, %s2, %s3, %s4, %HP, HS1, HS2, HS3, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  unfold Held at HP; rw [hs', hl'] at HP
  iapply ((valueRun0_B c (grid0.coords t) _ _ _ _ _ _ _ _ _ _ _ _ _ _ _ _ _ _ _ _ _ _ _ _ _ _ _ _ _ _ _ _ (fun h => by have := (hcond0_0 t).mp h; omega) (fun h => by have := (hcond0_1 t).mp h; omega) ((hcond0_2 t).mpr (by omega)) (fun h => by have := (hcond0_3 t).mp h; omega) (iblk m c 0 t) (iblk m c 1 t) (iblk m c 2 t) (iblk m c 3 t) (iblk m c 4 t) (iblk m c 5 t)
    (cBlk m c t) (sBlk m c t) s1 s2 s3 s4) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, ⟨%e6, %o6, %h6, H6⟩, ⟨%e7, %o7, %h7, H7⟩, ⟨%e8, %o8, %h8, H8⟩, ⟨%e9, %o9, %h9, H9⟩, ⟨%e10, %o10, %h10, H10⟩, HS0, ⟨%n1, %g1, HS1⟩, ⟨%n2, %g2, HS2⟩, ⟨%n3, %g3, HS3⟩, ⟨%n4, %g4, HS4⟩⟩
  have E6 : o6 = qBlk m c t := Tile.Upd.q HP h6
  have E7 : o7 = kBlk m c t := Tile.Upd.k HP h7
  have E8 : o8 = vBlk m c t := Tile.Upd.v HP h8
  have E9 : o9 = cBlk m c t := (Tile.Upd.codes h9).trans (by unfold cBlk; rw [hs])
  have E10 : o10 = sBlk m c t := (Tile.Upd.scales h10).trans (by unfold sBlk; rw [hs])
  have HH : Held m c t.val n1 n2 n3 n4 := by
    unfold Held; rw [hs, hl]; exact ⟨Tile.Upd.codesIn g1, Tile.Upd.scalesIn g2, Tile.Upd.cosIn g3, Tile.Upd.sinIn g4⟩
  subst E6 E7 E8 E9 E10
  isplitl [HS0 HS1 HS2 HS3 HS4 Hg]
  · isplitl [HS0 HS1 HS2 HS3 HS4]
    · isplitl [HS0]
      · iexact HS0
      iexists n1, n2, n3, n4
      isplitr; · ipureintro; exact HH
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 6400000 in
theorem sound_C (c : Dev nD) (t : Fin cfg0.N) (h0 : t.val % 2 = 0) (h1 : t.val ≠ 0) (h2 : t.val ≠ 64) :
    bodyPre m c t ⊢ wp frame (wpE (defs₀ (F := Ideal)) Variants.none c none) Set.univ (bodyAt0 t) (fun _ => bodyPost m c t) := by
  have hN : t.val < 65 := lt_of_lt_of_eq t.isLt N_0
  have hs' : sv (t.val - 1) = prv t := sv_of (show min (t.val - 1) 63 = t.val - 1 by omega)
  have hl' : slotAt (t.val - 1) = 1 := Fin.ext (show min (t.val - 1) 63 % 2 = 1 by omega)
  have hs : sv t.val = t := sv_of (by omega)
  have hl : slotAt t.val = 0 := Fin.ext (show min t.val 63 % 2 = 0 by omega)
  obtain ⟨l0, l1, l2, l3, l4, l5⟩ := leaves_in m c t
  obtain ⟨l6, l7, l8⟩ := leaves_proj m c t (by omega)
  obtain ⟨l9, l10⟩ := leaves_codes m c t
  unfold bodyPre bodyPost bodyAt0
  rw [l0, l1, l2, l3, l4, l5, l6, l7, l8, l9, l10, Phi_pre, Phi_post, PhiS_pos m c t.val (by omega), PhiS_pos m c (t.val + 1) (by omega), Nat.add_sub_cancel,
    show (dats m 0 c).owesAt () t.succ = (dats m 0 c).owesAt () t.castSucc from rfl]
  simp only [before0_0, before0_1, before0_2, before0_3, before0_4, before0_5]
  iintro ⟨⟨⟨HS0, ⟨%s1, %s2, %s3, %s4, %HP, HS1, HS2, HS3, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  unfold Held at HP; rw [hs', hl'] at HP
  iapply ((valueRun0_C c (grid0.coords t) _ _ _ _ _ _ _ _ _ _ _ _ _ _ _ _ _ _ _ _ _ _ _ _ _ _ _ _ _ _ _ _ (fun h => by have := (hcond0_0 t).mp h; omega) (cond0_1_even t h0 h1 h2) (fun h => by have := (hcond0_2 t).mp h; omega) (fun h => by have := (hcond0_3 t).mp h; omega) (iblk m c 0 t) (iblk m c 1 t) (iblk m c 2 t) (iblk m c 3 t) (iblk m c 4 t) (iblk m c 5 t)
    (cBlk m c t) (sBlk m c t) s1 s2 s3 s4) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [H10]; · iexists _; iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, ⟨%e6, %o6, %h6, H6⟩, ⟨%e7, %o7, %h7, H7⟩, ⟨%e8, %o8, %h8, H8⟩, ⟨%e9, %o9, %h9, H9⟩, ⟨%e10, %o10, %h10, H10⟩, HS0, ⟨%n1, %g1, HS1⟩, ⟨%n2, %g2, HS2⟩, ⟨%n3, %g3, HS3⟩, ⟨%n4, %g4, HS4⟩⟩
  have E6 : o6 = qBlk m c t := Tile.Upd.q HP h6
  have E7 : o7 = kBlk m c t := Tile.Upd.k HP h7
  have E8 : o8 = vBlk m c t := Tile.Upd.v HP h8
  have E9 : o9 = cBlk m c t := (Tile.Upd.codes h9).trans (by unfold cBlk; rw [hs])
  have E10 : o10 = sBlk m c t := (Tile.Upd.scales h10).trans (by unfold sBlk; rw [hs])
  have HH : Held m c t.val n1 n2 n3 n4 := by
    unfold Held; rw [hs, hl]; exact ⟨Tile.Upd.codesIn g1, Tile.Upd.scalesIn g2, Tile.Upd.cosIn g3, Tile.Upd.sinIn g4⟩
  subst E6 E7 E8 E9 E10
  isplitl [HS0 HS1 HS2 HS3 HS4 Hg]
  · isplitl [HS0 HS1 HS2 HS3 HS4]
    · isplitl [HS0]
      · iexact HS0
      iexists n1, n2, n3, n4
      isplitr; · ipureintro; exact HH
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option maxHeartbeats 6400000 in
theorem sound_D (c : Dev nD) (t : Fin cfg0.N) (ht : t.val = 64) :
    bodyPre m c t ⊢ wp frame (wpE (defs₀ (F := Ideal)) Variants.none c none) Set.univ (bodyAt0 t) (fun _ => bodyPost m c t) := by
  have hN : t.val < 65 := lt_of_lt_of_eq t.isLt N_0
  have hs' : sv (t.val - 1) = prv t := sv_of (show min (t.val - 1) 63 = t.val - 1 by omega)
  have hl' : slotAt (t.val - 1) = 1 := Fin.ext (show min (t.val - 1) 63 % 2 = 1 by omega)
  obtain ⟨l0, l1, l2, l3, l4, l5⟩ := leaves_in m c t
  obtain ⟨l6, l7, l8⟩ := leaves_proj m c t (by omega)
  obtain ⟨l9, l10⟩ := leaves_codes m c t
  unfold bodyPre bodyPost bodyAt0
  rw [l0, l1, l2, l3, l4, l5, l6, l7, l8, l9, l10, Phi_pre, Phi_post, PhiS_pos m c t.val (by omega), PhiS_pos m c (t.val + 1) (by omega), Nat.add_sub_cancel,
    show (dats m 0 c).owesAt () t.succ = (dats m 0 c).owesAt () t.castSucc from rfl]
  simp only [before0_0, before0_1, before0_2, before0_3, before0_4, before0_5, before0_9 m c t ht, before0_10 m c t ht]
  iintro ⟨⟨⟨HS0, ⟨%s1, %s2, %s3, %s4, %HP, HS1, HS2, HS3, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have HQ : Held m c t.val s1 s2 s3 s4 := by
    unfold Held at HP ⊢; rw [show sv t.val = sv (t.val - 1) from Fin.ext (show min t.val 63 = min (t.val - 1) 63 by omega), show slotAt t.val = slotAt (t.val - 1) from Fin.ext (show min t.val 63 % 2 = min (t.val - 1) 63 % 2 by omega)]; exact HP
  unfold Held at HP; rw [hs', hl'] at HP
  iapply ((valueRun0_D c (grid0.coords t) _ _ _ _ _ _ _ _ _ _ _ _ _ _ _ _ _ _ _ _ _ _ _ _ _ _ _ _ _ _ _ _ (fun h => by have := (hcond0_0 t).mp h; omega) (fun h => by have := (hcond0_1 t).mp h; omega) (fun h => by have := (hcond0_2 t).mp h; omega) ((hcond0_3 t).mpr (by omega)) (iblk m c 0 t) (iblk m c 1 t) (iblk m c 2 t) (iblk m c 3 t) (iblk m c 4 t) (iblk m c 5 t)
    (cBlk m c t) (sBlk m c t) s1 s2 s3 s4) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexact H9
  isplitl [H10]; · iexact H10
  isplitl [HS0]; · iexact HS0
  isplitl [HS1]; · iexact HS1
  isplitl [HS2]; · iexact HS2
  isplitl [HS3]; · iexact HS3
  isplitl [HS4]; · iexact HS4
  iintro ⟨H0, H1, H2, H3, H4, H5, ⟨%e6, %o6, %h6, H6⟩, ⟨%e7, %o7, %h7, H7⟩, ⟨%e8, %o8, %h8, H8⟩, H9, H10, HS0, HS1, HS2, HS3, HS4⟩
  have E6 : o6 = qBlk m c t := Tile.Upd.q HP h6
  have E7 : o7 = kBlk m c t := Tile.Upd.k HP h7
  have E8 : o8 = vBlk m c t := Tile.Upd.v HP h8
  subst E6 E7 E8
  isplitl [HS0 HS1 HS2 HS3 HS4 Hg]
  · isplitl [HS0 HS1 HS2 HS3 HS4]
    · isplitl [HS0]
      · iexact HS0
      iexists s1, s2, s3, s4
      isplitr; · ipureintro; exact HQ
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem sound_body (c : Dev nD) (t : Fin cfg0.N) :
    bodyPre m c t ⊢ wp frame (wpE (defs₀ (F := Ideal)) Variants.none c none) Set.univ (bodyAt0 t) (fun _ => bodyPost m c t) := by
  by_cases h0 : t.val = 0
  · exact sound_A m c t h0
  by_cases h4 : t.val = 64
  · exact sound_D m c t h4
  by_cases h2 : t.val % 2 = 1
  · exact sound_B m c t h2
  · exact sound_C m c t (by omega) h0 h4

theorem defs₀_row (t : Fin cfg0.N) :
    defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-! ## The run -/

theorem hin (c : Dev nD) : Pipeline.ΦA spec0 c ⊢ (dats m 0 c).Φ 0 := by
  rw [show (dats m 0 c).Φ 0 = Pipeline.ΦA spec0 c from by dsimp only [dats]; rfl]

theorem hout (c : Dev nD) : (dats m 0 c).Φ (Fin.last cfg0.N) ⊢ Pipeline.ΦA spec0 c := by
  rw [show (dats m 0 c).Φ (Fin.last cfg0.N) = PhiS m c cfg0.N from by dsimp only [dats, Fin.val_last],
    PhiS_pos m c cfg0.N (by rw [show cfg0.N = 65 from N_0]; omega), PhiA0_eq]
  iintro ⟨⟨HS0, ⟨%s1, %s2, %s3, %s4, -, HS1, HS2, HS3, HS4⟩⟩, Hg⟩
  isplitl [HS0 HS1 HS2 HS3 HS4]
  · isplitl [HS0]
    · iexact HS0
    isplitl [HS1]
    · iexists _; iexact HS1
    isplitl [HS2]
    · iexists _; iexact HS2
    isplitl [HS3]
    · iexists _; iexact HS3
    iexists _; iexact HS4
  iexact Hg

set_option backward.isDefEq.respectTransparency.types false in
set_option maxHeartbeats 800000 in
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around_track cfgs (dats m) 0 launch0 defs₀ Variants.none m ρ main
    (fun c => (body_obligation m c).loose) (fun c => (dats m 0 c).share_full fun _ => rfl) (fun _ _ => rfl)
    (V0 m) [hostOps1] sfx_sub sfx_fresh sfx_keeps (hmain m Variants.none) (A_eq m) (hin m) (hout m)

end Cert.KernelIdeal.Gen.Named

end
-- ==== Proof.Target.lean ====
/- The five results over whole arrays, from the functions of `Spec`: token `s` of batch `b` at a time. -/
module

public import proofs.«01_k».proof.Proof.Spec

@[expose] public section

noncomputable section

namespace Cert.Spec

open Idealize.ShloMosaic

section
variable (X : Fin 2 → Fin 8192 → Fin 5120 → EReal) (G : Fin 5120 → EReal) (W : Fin 5120 → Fin 3840 → EReal) (S : Fin 3840 → EReal)
  (A : Fin 2 → Fin 8192 → Fin 64 → EReal)

/-- Lane `k` of head `n` of projection `q`. -/
def head (q : Fin 3) (b : Fin 2) (s : Fin 8192) (n : Fin 10) (k : Fin 128) : EReal :=
  proj (X b s) G (fun c => W c ⟨1280 * q.val + 128 * n.val + k.val, by omega⟩) (S ⟨1280 * q.val + 128 * n.val + k.val, by omega⟩)

/-- The same, rotated. -/
def rot (q : Fin 3) (b : Fin 2) (s : Fin 8192) (n : Fin 10) (k : Fin 128) : EReal := rope (head X G W S q b s n) (A b s) k

/-- The codes and the scale of a token. -/
def codeT (b : Fin 2) (s : Fin 8192) (c : Fin 5120) : EReal := code (X b s) G c
def scaleT (b : Fin 2) (s : Fin 8192) : EReal := scOf (amx (X b s) G)
end

/-- The frequencies of the rotation. -/
def freq (j : Fin 64) : EReal :=
  Ideal.pow (Ideal.ofBits .f32 0x461C4000#32)
    (-Ideal.div (Ideal.ofBits .f32 0x40000000#32 * FloatOps.sitofp (F := Ideal) .f32 (BitVec.ofNat 32 j.val)) (Ideal.ofBits .f32 0x43000000#32))

/-- The angle of frequency `j` at position `p`. -/
def ang (p : BitVec 32) (j : Fin 64) : EReal := FloatOps.sitofp (F := Ideal) .f32 p * freq j

end Cert.Spec

end
-- ==== Proof.KernelIdeal.Blocks.lean ====
/- The arrays of the program: a tile of tokens is a block of the arguments, and the blocks written back make the five
   results. -/
module

public import proofs.«01_k».proof.Proof.KernelIdeal.Sound
public import proofs.«01_k».proof.Proof.Target
public import Idealize.ShloMosaic.Lib.Pipeline.ValueKit

@[expose] public section

set_option maxRecDepth 16384

noncomputable section

namespace Cert.KernelIdeal.Gen.Named

open Idealize.ShloMosaic Idealize.ShloMosaic.TcCoe Idealize.SL.Sem Cert
open Idealize.ShloMosaic.Pipeline (Dat)

variable (m : (ℓ : Loc nD τ sig) → Buf (Elt Ideal) ℓ)

/-! ## The arguments, as functions of indices -/

def argX (c : Dev nD) (b : Fin 2) (s : Fin 8192) (k : Fin 5120) : EReal := (show FVec Ideal S2x8192x5120 .bf16 from m ((c : Thread nD τ).loc main_arg0)) (ix3 b s k)
def argG (c : Dev nD) (k : Fin 5120) : EReal := (show FVec Ideal S5120 .f32 from m ((c : Thread nD τ).loc main_arg1)) (ix1 k)
def argW (c : Dev nD) (k : Fin 5120) (j : Fin 3840) : EReal := (show FVec Ideal S5120x3840 .fp8e4m3 from m ((c : Thread nD τ).loc main_arg2)) (ix2 k j)
def argS (c : Dev nD) (j : Fin 3840) : EReal := (show FVec Ideal S3840 .f32 from m ((c : Thread nD τ).loc main_arg3)) (ix1 j)
def argA (c : Dev nD) (b : Fin 2) (s : Fin 8192) (j : Fin 64) : EReal :=
  Spec.ang ((show IVec S2x8192 32 from m ((c : Thread nD τ).loc main_arg4)) (ix2 b s)) j

/-! ## The blocks of the arguments -/

theorem idx : ∀ t : Fin cfg0.N, win0_0.index t = ![min t.val 63, 0] ∧ win0_1.index t = ![0, 0] ∧ win0_2.index t = ![0, 0] ∧ win0_3.index t = ![0, 0]
    ∧ win0_4.index t = ![min t.val 63, 0, 0] ∧ win0_5.index t = ![0, 0]
    ∧ win0_6.index t = ![(t.val - 1) / 32, 0, (t.val - 1) % 32, 0] ∧ win0_7.index t = ![(t.val - 1) / 32, 0, (t.val - 1) % 32, 0]
    ∧ win0_8.index t = ![(t.val - 1) / 32, 0, (t.val - 1) % 32, 0] ∧ win0_9.index t = ![min t.val 63, 0] ∧ win0_10.index t = ![min t.val 63, 0, 0] :=
  (by decide +kernel : ∀ t : Fin grid0.N, _)

/-- The batch and the token of row `p` of the tile of point `t`. -/
abbrev bOf (t : Fin cfg0.N) : Fin 2 := ⟨min t.val 63 / 32, by omega⟩
abbrev sOf (t : Fin cfg0.N) (p : Fin 256) : Fin 8192 := ⟨min t.val 63 % 32 * 256 + p.val, by omega⟩

/-- What the region finds in the arrays the host lines before it fill. -/
theorem V_x (c : Dev nD) (r : Fin 16384) (k : Fin 5120) :
    (show FVec Ideal S16384x5120 .bf16 from V m c main_v12) (ix2 r k) = argX m c ⟨r.val / 8192, by omega⟩ ⟨r.val % 8192, by omega⟩ k := by
  unfold argX
  simp only [V, V0, hostOps0, List.flatten_cons, List.flatten_nil, List.append_nil]
  entry_read
  pointwise
theorem V_g (c : Dev nD) (k : Fin 5120) : (show FVec Ideal S1x5120 .f32 from V m c main_v13) (ix2 0 k) = argG m c k := by
  unfold argG
  simp only [V, V0, hostOps0, List.flatten_cons, List.flatten_nil, List.append_nil]
  entry_read
  pointwise
theorem V_s (c : Dev nD) (j : Fin 3840) : (show FVec Ideal S1x3840 .f32 from V m c main_v14) (ix2 0 j) = argS m c j := by
  unfold argS
  simp only [V, V0, hostOps0, List.flatten_cons, List.flatten_nil, List.append_nil]
  entry_read
  pointwise
theorem V_p (c : Dev nD) (t : Fin 64) (p : Fin 256) : (show IVec S64x1x256 32 from V m c main_v15) (ix3 t 0 p)
    = (show IVec S2x8192 32 from m ((c : Thread nD τ).loc main_arg4)) (ix2 ⟨t.val / 32, by omega⟩ ⟨t.val % 32 * 256 + p.val, by omega⟩) := by
  simp only [V, V0, hostOps0, List.flatten_cons, List.flatten_nil, List.append_nil]
  entry_read
  pointwise
theorem V_f (c : Dev nD) (j : Fin 64) (p : Fin 256) : (show FVec Ideal S64x256 .f32 from V m c main_v11) (ix2 j p) = Spec.freq j := by
  simp only [V, V0, hostOps0, List.flatten_cons, List.flatten_nil, List.append_nil]
  entry_read
  pointwise
  rfl

theorem rowOf_blk (c : Dev nD) (t : Fin cfg0.N) (p : Fin 256) : Tile.rowOf (iblk m c 0 t) p = argX m c (bOf t) (sOf t p) := by
  funext k
  unfold Tile.rowOf
  blk_simp [iblk]
  rw [show (((View.whole main_v12).slice (win0_0.rect t)).emb (ix2 p k)) = ix2 ⟨min t.val 63 * 256 + p.val, by omega⟩ k from by blk_ext [idx t]]
  refine (V_x m c ⟨min t.val 63 * 256 + p.val, by omega⟩ k).trans ?_
  exact congrArg₂ (fun b s => argX m c b s k)
    (Fin.ext (show (min t.val 63 * 256 + p.val) / 8192 = min t.val 63 / 32 by omega))
    (Fin.ext (show (min t.val 63 * 256 + p.val) % 8192 = min t.val 63 % 32 * 256 + p.val by omega))
theorem colOf_blk (c : Dev nD) (t : Fin cfg0.N) (j : Fin 3840) : Tile.colOf (iblk m c 2 t) j = fun k => argW m c k j := by
  funext k
  unfold Tile.colOf argW
  blk_ext [iblk, V, idx t]
theorem gainOf_blk (c : Dev nD) (t : Fin cfg0.N) : Tile.gainOf (iblk m c 1 t) = argG m c := by
  funext k
  unfold Tile.gainOf
  blk_simp [iblk]
  rw [show (((View.whole main_v13).slice (win0_1.rect t)).emb (ix2 0 k)) = ix2 0 k from by blk_ext [idx t]]
  exact V_g m c k
theorem scale_blk (c : Dev nD) (t : Fin cfg0.N) (j : Fin 3840) : (show FVec Ideal S1x3840 .f32 from iblk m c 3 t) (ix2 0 j) = argS m c j := by
  blk_simp [iblk]
  rw [show (((View.whole main_v14).slice (win0_3.rect t)).emb (ix2 0 j)) = ix2 0 j from by blk_ext [idx t]]
  exact V_s m c j
theorem ang_blk (c : Dev nD) (t : Fin cfg0.N) (p : Fin 256) : Tile.angAt (iblk m c 4 t) (iblk m c 5 t) p = argA m c (bOf t) (sOf t p) := by
  funext j
  unfold Tile.angAt argA Spec.ang
  have e1 : (show IVec S1x1x256 32 from iblk m c 4 t) (ix3 0 0 p) = (show IVec S2x8192 32 from m ((c : Thread nD τ).loc main_arg4)) (ix2 (bOf t) (sOf t p)) := by
    blk_simp [iblk]
    rw [show (((View.whole main_v15).slice (win0_4.rect t)).emb (ix3 0 0 p)) = ix3 ⟨min t.val 63, by omega⟩ 0 p from by blk_ext [idx t]]
    exact V_p m c ⟨min t.val 63, by omega⟩ p
  have e2 : (show FVec Ideal S64x256 .f32 from iblk m c 5 t) (ix2 j p) = Spec.freq j := by
    blk_simp [iblk]
    rw [show (((View.whole main_v11).slice (win0_5.rect t)).emb (ix2 j p)) = ix2 j p from by blk_ext [idx t]]
    exact V_f m c j p
  exact congrArg₂ (fun a b => FloatOps.sitofp (F := Ideal) .f32 a * b) e1 e2

theorem projAt_blk (c : Dev nD) (t t' : Fin cfg0.N) (q : Fin 3) (p : Fin 256) (n : Fin 10) :
    Tile.projAt (iblk m c 0 t) (iblk m c 1 t) (iblk m c 2 t') (iblk m c 3 t') q p n
      = Spec.head (argX m c) (argG m c) (argW m c) (argS m c) q (bOf t) (sOf t p) n := by
  funext k
  unfold Tile.projAt Spec.head
  rw [rowOf_blk, gainOf_blk, colOf_blk]
  exact congrArg (Spec.proj _ _ _) (scale_blk m c t' _)
theorem ropeAt_blk (c : Dev nD) (t t' : Fin cfg0.N) (q : Fin 3) (p : Fin 256) (n : Fin 10) (k : Fin 128) :
    Tile.ropeAt (iblk m c 0 t) (iblk m c 1 t) (iblk m c 2 t') (iblk m c 3 t') (iblk m c 4 t) (iblk m c 5 t) q p n k
      = Spec.rot (argX m c) (argG m c) (argW m c) (argS m c) (argA m c) q (bOf t) (sOf t p) n k := by
  unfold Tile.ropeAt Spec.rot
  rw [projAt_blk, ang_blk]
theorem codeG_blk (c : Dev nD) (t : Fin cfg0.N) (p : Fin 256) (k : Fin 5120) :
    Tile.codeG (iblk m c 0 t) (iblk m c 1 t) (ix2 p k) = Spec.codeT (argX m c) (argG m c) (bOf t) (sOf t p) k := by
  show Tile.codeAt (iblk m c 0 t) (iblk m c 1 t) p k = _
  unfold Tile.codeAt Spec.codeT
  rw [rowOf_blk, gainOf_blk]
theorem scaleAt_blk (c : Dev nD) (t : Fin cfg0.N) (p : Fin 256) :
    Tile.scaleAt (iblk m c 0 t) (iblk m c 1 t) p = Spec.scaleT (argX m c) (argG m c) (bOf t) (sOf t p) := by
  unfold Tile.scaleAt Spec.scaleT
  rw [rowOf_blk, gainOf_blk]

/-! ## The arrays the region leaves -/

theorem final6 (c : Dev nD) : (dats m 0 c).arrAt 6 (cfgs 0).N
    = fun i : S2x10x8192x128.Idx => Spec.rot (argX m c) (argG m c) (argW m c) (argS m c) (argA m c) 0 (i 0) (i 2) (i 1) (i 3) :=
  (dats m 0 c).arrAt_eq_of_covers 6 _ (by decide +kernel) fun t hf y => by
    obtain ⟨a, n, p, k, rfl⟩ : ∃ a n p k, y = ix4 a n p k := ⟨_, _, _, _, eq_ix4 y⟩
    have ht : t.val ≠ 0 := by simpa using (flush0_6 t).symm.trans hf
    have hl : t.val < 65 := lt_of_lt_of_eq t.isLt N_0
    blk_simp
    rw [after0_6, show (win0_6.blk t).view.emb (ix4 a n p k) = ix4 (bOf (prv t)) n (sOf (prv t) p) k from by blk_ext [idx t]]
    exact ropeAt_blk m c (prv t) t 0 p n k
theorem final7 (c : Dev nD) : (dats m 0 c).arrAt 7 (cfgs 0).N
    = fun i : S2x10x8192x128.Idx => Spec.rot (argX m c) (argG m c) (argW m c) (argS m c) (argA m c) 1 (i 0) (i 2) (i 1) (i 3) :=
  (dats m 0 c).arrAt_eq_of_covers 7 _ (by decide +kernel) fun t hf y => by
    obtain ⟨a, n, p, k, rfl⟩ : ∃ a n p k, y = ix4 a n p k := ⟨_, _, _, _, eq_ix4 y⟩
    have ht : t.val ≠ 0 := by simpa using (flush0_7 t).symm.trans hf
    have hl : t.val < 65 := lt_of_lt_of_eq t.isLt N_0
    blk_simp
    rw [after0_7, show (win0_7.blk t).view.emb (ix4 a n p k) = ix4 (bOf (prv t)) n (sOf (prv t) p) k from by blk_ext [idx t]]
    exact ropeAt_blk m c (prv t) t 1 p n k
theorem final8 (c : Dev nD) : (dats m 0 c).arrAt 8 (cfgs 0).N
    = fun i : S2x10x8192x128.Idx => Spec.head (argX m c) (argG m c) (argW m c) (argS m c) 2 (i 0) (i 2) (i 1) (i 3) :=
  (dats m 0 c).arrAt_eq_of_covers 8 _ (by decide +kernel) fun t hf y => by
    obtain ⟨a, n, p, k, rfl⟩ : ∃ a n p k, y = ix4 a n p k := ⟨_, _, _, _, eq_ix4 y⟩
    have ht : t.val ≠ 0 := by simpa using (flush0_8 t).symm.trans hf
    have hl : t.val < 65 := lt_of_lt_of_eq t.isLt N_0
    blk_simp
    rw [after0_8, show (win0_8.blk t).view.emb (ix4 a n p k) = ix4 (bOf (prv t)) n (sOf (prv t) p) k from by blk_ext [idx t]]
    exact congrFun (projAt_blk m c (prv t) t 2 p n) k

/-- The codes and the scales as the region lays them out. -/
def codeArr (c : Dev nD) (r : Fin 16384) (k : Fin 5120) : EReal :=
  Spec.codeT (argX m c) (argG m c) ⟨r.val / 8192, by omega⟩ ⟨r.val % 8192, by omega⟩ k
def scaleArr (c : Dev nD) (t : Fin 64) (p : Fin 256) : EReal :=
  Spec.scaleT (argX m c) (argG m c) ⟨t.val / 32, by omega⟩ ⟨t.val % 32 * 256 + p.val, by omega⟩

theorem final9 (c : Dev nD) : (dats m 0 c).arrAt 9 (cfgs 0).N = fun i : S16384x5120.Idx => codeArr m c (i 0) (i 1) :=
  (dats m 0 c).arrAt_eq_of_covers 9 _ (by decide +kernel) fun t hf y => by
    obtain ⟨p, k, rfl⟩ : ∃ p k, y = ix2 p k := ⟨_, _, eq_ix2 y⟩
    blk_simp
    rw [after0_9, show (win0_9.blk t).view.emb (ix2 p k) = ix2 ⟨min t.val 63 * 256 + p.val, by omega⟩ k from by blk_ext [idx t]]
    refine (codeG_blk m c (sv t.val) p k).trans ?_
    exact congrArg₂ (fun b s => Spec.codeT (argX m c) (argG m c) b s k)
      (Fin.ext (show min (min t.val 63) 63 / 32 = (min t.val 63 * 256 + p.val) / 8192 by omega))
      (Fin.ext (show min (min t.val 63) 63 % 32 * 256 + p.val = (min t.val 63 * 256 + p.val) % 8192 by omega))

theorem final10 (c : Dev nD) : (dats m 0 c).arrAt 10 (cfgs 0).N = fun i : S64x1x256.Idx => scaleArr m c (i 0) (i 2) :=
  (dats m 0 c).arrAt_eq_of_covers 10 _ (by decide +kernel) fun t hf y => by
    obtain ⟨a, b, p, rfl⟩ : ∃ a b p, y = ix3 a b p := ⟨_, _, _, eq_ix3 y⟩
    blk_simp
    rw [after0_10, show (win0_10.blk t).view.emb (ix3 a b p) = ix3 ⟨min t.val 63, by omega⟩ 0 p from by blk_ext [idx t]]
    refine (scaleAt_blk m c (sv t.val) p).trans ?_
    exact congrArg₂ (fun b s => Spec.scaleT (argX m c) (argG m c) b s)
      (Fin.ext (show min (min t.val 63) 63 / 32 = min t.val 63 / 32 by omega))
      (Fin.ext (show min (min t.val 63) 63 % 32 * 256 + p.val = min t.val 63 % 32 * 256 + p.val by omega))

end Cert.KernelIdeal.Gen.Named

end
-- ==== Proof.KernelIdeal.Results.lean ====
/- The five results of the program, after the lines that follow the region: the functions of `Spec` of its arguments. -/
module

public import proofs.«01_k».proof.Proof.KernelIdeal.Blocks

@[expose] public section

set_option maxRecDepth 16384

noncomputable section

namespace Cert.KernelIdeal.Gen.Named

open Idealize.ShloMosaic Idealize.ShloMosaic.TcCoe Idealize.SL.Sem Cert
open Idealize.ShloMosaic.Pipeline (Dat)

/-! ## The lines after the region -/

section
variable (σ : Valuation τ sig (Elt Ideal))
/-- Heads and positions exchanged. -/
abbrev tr (x : FVec Ideal S2x10x8192x128 .bf16) : FVec Ideal S2x8192x10x128 .bf16 :=
  transpose S2x8192x10x128 [0, 2, 1, 3] x transposes_S2x10x8192x128_S2x8192x10x128_0_2_1_3
theorem line_17 : StableHlo.after (List.flatten [hostOps1]) σ (Proc.devRef .tc main_v17) = tr (show FVec Ideal S2x10x8192x128 .bf16 from σ (Proc.devRef .tc main_v16_0)) := by
  simp only [hostOps1, List.flatten_cons, List.flatten_nil, List.append_nil]
  entry_read
  rfl
theorem line_18 : StableHlo.after (List.flatten [hostOps1]) σ (Proc.devRef .tc main_v18) = tr (show FVec Ideal S2x10x8192x128 .bf16 from σ (Proc.devRef .tc main_v16_1)) := by
  simp only [hostOps1, List.flatten_cons, List.flatten_nil, List.append_nil]
  entry_read
  rfl
theorem line_19 : StableHlo.after (List.flatten [hostOps1]) σ (Proc.devRef .tc main_v19) = tr (show FVec Ideal S2x10x8192x128 .bf16 from σ (Proc.devRef .tc main_v16_2)) := by
  simp only [hostOps1, List.flatten_cons, List.flatten_nil, List.append_nil]
  entry_read
  rfl
theorem line_20 : StableHlo.after (List.flatten [hostOps1]) σ (Proc.devRef .tc main_v20)
    = shapeCast S2x8192x5120 (show FVec Ideal S16384x5120 .fp8e4m3 from σ (Proc.devRef .tc main_v16_3)) shapeCasts_S16384x5120_S2x8192x5120 := by
  simp only [hostOps1, List.flatten_cons, List.flatten_nil, List.append_nil]
  entry_read
  rfl
theorem line_21 : StableHlo.after (List.flatten [hostOps1]) σ (Proc.devRef .tc main_v21)
    = shapeCast S2x8192x1 (show FVec Ideal S64x1x256 .f32 from σ (Proc.devRef .tc main_v16_4)) shapeCasts_S64x1x256_S2x8192x1 := by
  simp only [hostOps1, List.flatten_cons, List.flatten_nil, List.append_nil]
  entry_read
  rfl
theorem tr_apply (x : FVec Ideal S2x10x8192x128 .bf16) (b : Fin 2) (s : Fin 8192) (n : Fin 10) (k : Fin 128) : tr x (ix4 b s n k) = x (ix4 b n s k) := by
  pointwise
end

variable (m : (ℓ : Loc nD τ sig) → Buf (Elt Ideal) ℓ) (c : Dev nD)

/-- The contents after the region. -/
abbrev σ1 : Valuation τ sig (Elt Ideal) := Pipeline.withArrays (cfgs 0).spec c (V0 m c) (fun w => (dats m 0 c).arrAt w (cfgs 0).N)
theorem σ1_arr (w : Fin 11) : σ1 m c (Proc.devRef .tc (Pipeline.arrRef spec0 w)) = (dats m 0 c).arrAt w (cfgs 0).N :=
  Pipeline.withArrays_arr spec0 (by decide) c (V0 m c) _ w

/-! ## The results -/

theorem res_17 : Pipeline.afterTail₀ cfgs (dats m) 0 (V0 m) [hostOps1] c main_v17
    = fun i : S2x8192x10x128.Idx => Spec.rot (argX m c) (argG m c) (argW m c) (argS m c) (argA m c) 0 (i 0) (i 1) (i 2) (i 3) := by
  refine (line_17 (σ1 m c)).trans (funext fun i => ?_)
  obtain ⟨b, s, n, k, rfl⟩ : ∃ b s n k, i = ix4 b s n k := ⟨_, _, _, _, eq_ix4 i⟩
  exact (tr_apply _ b s n k).trans (congrFun ((σ1_arr m c 6).trans (final6 m c)) (ix4 b n s k))
theorem res_18 : Pipeline.afterTail₀ cfgs (dats m) 0 (V0 m) [hostOps1] c main_v18
    = fun i : S2x8192x10x128.Idx => Spec.rot (argX m c) (argG m c) (argW m c) (argS m c) (argA m c) 1 (i 0) (i 1) (i 2) (i 3) := by
  refine (line_18 (σ1 m c)).trans (funext fun i => ?_)
  obtain ⟨b, s, n, k, rfl⟩ : ∃ b s n k, i = ix4 b s n k := ⟨_, _, _, _, eq_ix4 i⟩
  exact (tr_apply _ b s n k).trans (congrFun ((σ1_arr m c 7).trans (final7 m c)) (ix4 b n s k))
theorem res_19 : Pipeline.afterTail₀ cfgs (dats m) 0 (V0 m) [hostOps1] c main_v19
    = fun i : S2x8192x10x128.Idx => Spec.head (argX m c) (argG m c) (argW m c) (argS m c) 2 (i 0) (i 1) (i 2) (i 3) := by
  refine (line_19 (σ1 m c)).trans (funext fun i => ?_)
  obtain ⟨b, s, n, k, rfl⟩ : ∃ b s n k, i = ix4 b s n k := ⟨_, _, _, _, eq_ix4 i⟩
  exact (tr_apply _ b s n k).trans (congrFun ((σ1_arr m c 8).trans (final8 m c)) (ix4 b n s k))
theorem res_20 : Pipeline.afterTail₀ cfgs (dats m) 0 (V0 m) [hostOps1] c main_v20
    = fun i : S2x8192x5120.Idx => Spec.codeT (argX m c) (argG m c) (i 0) (i 1) (i 2) := by
  refine (line_20 (σ1 m c)).trans (funext fun i => ?_)
  obtain ⟨b, s, k, rfl⟩ : ∃ b s k, i = ix3 b s k := ⟨_, _, _, eq_ix3 i⟩
  have h := congrFun ((σ1_arr m c 9).trans (final9 m c)) (ix2 ⟨b.val * 8192 + s.val, by omega⟩ k)
  refine Eq.trans ?_ (h.trans ?_)
  · pointwise
  · exact congrArg₂ (fun b s => Spec.codeT (argX m c) (argG m c) b s k)
      (Fin.ext (show (b.val * 8192 + s.val) / 8192 = b.val by omega)) (Fin.ext (show (b.val * 8192 + s.val) % 8192 = s.val by omega))
theorem res_21 : Pipeline.afterTail₀ cfgs (dats m) 0 (V0 m) [hostOps1] c main_v21
    = fun i : S2x8192x1.Idx => Spec.scaleT (argX m c) (argG m c) (i 0) (i 1) := by
  refine (line_21 (σ1 m c)).trans (funext fun i => ?_)
  obtain ⟨b, s, z, rfl⟩ : ∃ b s z, i = ix3 b s z := ⟨_, _, _, eq_ix3 i⟩
  obtain rfl : z = 0 := Fin.ext (by omega)
  have h := congrFun ((σ1_arr m c 10).trans (final10 m c)) (ix3 ⟨b.val * 32 + s.val / 256, by omega⟩ 0 ⟨s.val % 256, by omega⟩)
  refine Eq.trans ?_ (h.trans ?_)
  · pointwise
  · exact congrArg₂ (fun b s => Spec.scaleT (argX m c) (argG m c) b s)
      (Fin.ext (show (b.val * 32 + s.val / 256) / 32 = b.val by omega))
      (Fin.ext (show (b.val * 32 + s.val / 256) % 32 * 256 + s.val % 256 = s.val by omega))

end Cert.KernelIdeal.Gen.Named

end
-- ==== Proof.Reference.lean ====
/- What the reference computes, at an index: its results are the functions of `Spec` of its own arguments. -/
module

public import proofs.«01_k».proof.Proof.Gen.ReferenceIdeal.Frame
public import proofs.«01_k».proof.Proof.Target
public import Idealize.ShloMosaic.Lib.Pipeline.ValueKit

@[expose] public section

set_option maxRecDepth 16384

noncomputable section

namespace Cert.ReferenceIdeal.Gen

open Idealize.ShloMosaic Idealize.ShloMosaic.TcCoe Idealize.SL.Sem Cert
open Idealize.ShloMosaic.Pipeline (Dat)

variable (m : (ℓ : Loc nD τ sig) → Buf (Elt Ideal) ℓ)

/-! ## The arguments, as functions of indices -/

def argX (c : Dev nD) (b : Fin 2) (s : Fin 8192) (k : Fin 5120) : EReal := (show FVec Ideal S2x8192x5120 .bf16 from m ((c : Thread nD τ).loc main_arg0)) (ix3 b s k)
def argG (c : Dev nD) (k : Fin 5120) : EReal := (show FVec Ideal S5120 .f32 from m ((c : Thread nD τ).loc main_arg1)) (ix1 k)
def argW (c : Dev nD) (k : Fin 5120) (j : Fin 3840) : EReal := (show FVec Ideal S5120x3840 .fp8e4m3 from m ((c : Thread nD τ).loc main_arg2)) (ix2 k j)
def argS (c : Dev nD) (j : Fin 3840) : EReal := (show FVec Ideal S3840 .f32 from m ((c : Thread nD τ).loc main_arg3)) (ix1 j)
def argA (c : Dev nD) (b : Fin 2) (s : Fin 8192) (j : Fin 64) : EReal :=
  Spec.ang ((show IVec S2x8192 32 from m ((c : Thread nD τ).loc main_arg4)) (ix2 b s)) j

/-- A division by the length of a row. -/
theorem div_n (x : EReal) : Ideal.div x (Ideal.ofBits .f32 0x45A00000#32) = x * ((1 / 5120 : ℝ) : EReal) := by
  have h : Ideal.ofBits .f32 0x45A00000#32 = ((5120 : ℝ) : EReal) := by
    show Ideal.ieee 8 23 0x45A00000#32 = _
    have h1 : ((0x45A00000#32 : BitVec 32).extractLsb' (8 + 23) 1 == 1#1) = false := by decide
    have h2 : ((0x45A00000#32 : BitVec 32).extractLsb' 23 8).toNat = 139 := by decide
    have h3 : ((0x45A00000#32 : BitVec 32).extractLsb' 0 23).toNat = 2097152 := by decide
    unfold Ideal.ieee
    simp only [h1, h2, h3]
    rw [if_neg (by omega), if_neg (by omega)]
    refine congrArg (fun r : ℝ => (r : EReal)) ?_
    norm_num
  rw [h]
  exact Ideal.div_coe (by norm_num) x
theorem one_f32 : Ideal.ofBits .f32 0x3F800000#32 = 1 := by
  pointwise
/-- The largest element of a row. -/
theorem hostMax {n0 n1 n2 : ℕ} {u : Shape} (v : FVec Ideal ⟨3, ![n0, n1, n2]⟩ .f32) (init : FVec Ideal u .f32)
    (h : (⟨3, ![n0, n1, n2]⟩ : Shape).ReducesTo [2] ⟨2, ![n0, n1]⟩) (hu : 0 < u.numel) (a : Fin n0) (b : Fin n1) :
    Host.reduce FloatOps.maximumf v init h hu (ix2 a b) = Finset.univ.fold max (init (Shape.Idx.first hu)) fun k => v (ix3 a b k) := by
  simp only [pointwise]

/-! ## The reference's stages -/

section
variable (X : FVec Ideal S2x8192x5120 .bf16) (G : FVec Ideal S5120 .f32) (h : FVec Ideal S2x8192x5120 .f32) (M : FVec Ideal S2x8192 .f32) (a e : FVec Ideal S2x8192x1 .f32)

/-- The normalised rows. -/
def rH : FVec Ideal S2x8192x5120 .f32 :=
  mulf
    (mulf (extf FTy.f32 X bitsLt_bf16_f32)
      (broadcastInDim S2x8192x5120 ![0, 1, 2] bcast_S2x8192x1_S2x8192x5120_0_1_2
        (Host.rsqrt
          (addf
            (Host.divf
              (broadcastInDim S2x8192x1 ![0, 1] bcast_S2x8192_S2x8192x1_0_1
                (Host.reduceAdd (mulf (extf FTy.f32 X bitsLt_bf16_f32) (extf FTy.f32 X bitsLt_bf16_f32))
                  (constant S_ FTy.f32 0x00000000#32) reducesTo_S2x8192x5120_S2x8192_d2 h_S_))
              (broadcastInDim S2x8192x1 ![] bcast_S_S2x8192x1 (constant S_ FTy.f32 0x45A00000#32)))
            (broadcastInDim S2x8192x1 ![] bcast_S_S2x8192x1 (constant S_ FTy.f32 0x358637BD#32))))))
    (broadcastInDim S2x8192x5120 ![0, 1, 2] bcast_S1x1x5120_S2x8192x5120_0_1_2
      (broadcastInDim S1x1x5120 ![2] bcast_S5120_S1x1x5120_2 G))

/-- The largest magnitude of each. -/
def rM : FVec Ideal S2x8192 .f32 :=
  Host.reduce FloatOps.maximumf (Host.absf h) (constant S_ FTy.f32 0xFF800000#32) reducesTo_S2x8192x5120_S2x8192_d2 h_S_

/-- The same over the largest code. -/
def rA : FVec Ideal S2x8192x1 .f32 :=
  mulf (broadcastInDim S2x8192x1 ![0, 1] bcast_S2x8192_S2x8192x1_0_1 M)
    (broadcastInDim S2x8192x1 ![] bcast_S_S2x8192x1 (constant S_ FTy.f32 0x3B124925#32))

/-- The exponents of the scales. -/
def rE : FVec Ideal S2x8192x1 .f32 :=
  select
    (andi (cmpf CmpFPredicate.oge a (broadcastInDim S2x8192x1 ![] bcast_S_S2x8192x1 (constant S_ FTy.f32 0x00800000#32)))
      (cmpf CmpFPredicate.olt a (broadcastInDim S2x8192x1 ![] bcast_S_S2x8192x1 (constant S_ FTy.f32 0x7E800000#32))))
    (addf
      (Host.floor
        (Host.divf (Host.log a) (Host.log (broadcastInDim S2x8192x1 ![] bcast_S_S2x8192x1 (constant S_ FTy.f32 0x40000000#32)))))
      (broadcastInDim S2x8192x1 ![] bcast_S_S2x8192x1 (constant S_ FTy.f32 0x3F800000#32)))
    (broadcastInDim S2x8192x1 ![] bcast_S_S2x8192x1 (constant S_ FTy.f32 0x00000000#32))

/-- The scales. -/
def rSc : FVec Ideal S2x8192x1 .f32 := Host.powf (broadcastInDim S2x8192x1 ![] bcast_S_S2x8192x1 (constant S_ FTy.f32 0x40000000#32)) e

/-- The codes. -/
def rQ : FVec Ideal S2x8192x5120 .f32 :=
  minimumf (broadcastInDim S2x8192x5120 ![] bcast_S_S2x8192x5120 (constant S_ FTy.f32 0x43E00000#32))
    (maximumf (broadcastInDim S2x8192x5120 ![] bcast_S_S2x8192x5120 (constant S_ FTy.f32 0xC3E00000#32))
      (mulf h (broadcastInDim S2x8192x5120 ![0, 1, 2] bcast_S2x8192x1_S2x8192x5120_0_1_2
        (Host.powf (broadcastInDim S2x8192x1 ![] bcast_S_S2x8192x1 (constant S_ FTy.f32 0x40000000#32)) (Host.negf e)))))

theorem rH_apply (b : Fin 2) (s : Fin 8192) (k : Fin 5120) : rH X G (ix3 b s k) = Spec.hrow (fun k => X (ix3 b s k)) (fun k => G (ix1 k)) k := by
  pointwise [rH]
  unfold Spec.hrow Spec.rsq
  rw [div_n]
theorem rM_apply (b : Fin 2) (s : Fin 8192) : rM h (ix2 b s)
    = Finset.univ.fold max (Ideal.ofBits .f32 0xFF800000#32) fun k => max (h (ix3 b s k)) (-h (ix3 b s k)) := by
  unfold rM
  rw [hostMax]
  rfl
theorem rA_apply (b : Fin 2) (s : Fin 8192) : rA M (ix3 b s 0) = M (ix2 b s) * Ideal.ofBits .f32 0x3B124925#32 := by
  pointwise [rA]
theorem rE_apply (b : Fin 2) (s : Fin 8192) (x : EReal) (ha : a (ix3 b s 0) = x * Ideal.ofBits .f32 0x3B124925#32) : rE a (ix3 b s 0) = Spec.expo x := by
  pointwise [rE]
  unfold Spec.expo
  rw [ha, one_f32]
  generalize x * Ideal.ofBits .f32 0x3B124925#32 = y
  by_cases h1 : Ideal.ofBits .f32 0x00800000#32 ≤ y <;> by_cases h2 : y < Ideal.ofBits .f32 0x7E800000#32 <;>
    simp [h1, h2, Scalar.select, IntOp.andi]
theorem rSc_apply (b : Fin 2) (s : Fin 8192) : rSc e (ix3 b s 0) = Ideal.pow (Ideal.ofBits .f32 0x40000000#32) (e (ix3 b s 0)) := by
  pointwise [rSc]
theorem rQ_apply (b : Fin 2) (s : Fin 8192) (k : Fin 5120) : rQ h e (ix3 b s k)
    = min (Ideal.ofBits .f32 0x43E00000#32) (max (Ideal.ofBits .f32 0xC3E00000#32) (h (ix3 b s k) * Ideal.pow (Ideal.ofBits .f32 0x40000000#32) (-e (ix3 b s 0)))) := by
  pointwise [rQ]
end

/-! ## What the region finds -/

section
variable (c : Dev nD)
abbrev hOf : FVec Ideal S2x8192x5120 .f32 :=
  rH (show FVec Ideal S2x8192x5120 .bf16 from m (c, Proc.tc.devRef main_arg0)) (show FVec Ideal S5120 .f32 from m (c, Proc.tc.devRef main_arg1))
set_option maxHeartbeats 1600000 in
theorem V_32 : V m c main_v32 = rSc (rE (rA (rM (hOf m c)))) := by
  simp only [V, V0, hostOps0, hostOps0_1, hostOps0_2, hostOps0_3, hostOps0_4, List.flatten_cons, List.flatten_nil, List.append_nil, List.cons_append, List.nil_append]
  entry_read
  simp -implicitDefEqProofs only [StableHlo.TRef.toBuf, StableHlo.TRef.ofBuf, cast_cast, cast_eq]
  rfl
set_option maxHeartbeats 1600000 in
theorem V_38 : V m c main_v38 = shapeCast S16384x5120 (rQ (hOf m c) (rE (rA (rM (hOf m c))))) shapeCasts_S2x8192x5120_S16384x5120 := by
  simp only [V, V0, hostOps0, hostOps0_1, hostOps0_2, hostOps0_3, hostOps0_4, List.flatten_cons, List.flatten_nil, List.append_nil, List.cons_append, List.nil_append]
  entry_read
  simp -implicitDefEqProofs only [StableHlo.TRef.toBuf, StableHlo.TRef.ofBuf, cast_cast, cast_eq]
  rfl
end

/-! ## What the region leaves -/

section
variable (c : Dev nD)

theorem idx : ∀ t : Fin cfg0.N, win0_0.index t = ![0, 0] ∧ win0_1.index t = ![0, 0] ∧ win0_2.index t = ![0, 0] ∧ win0_3.index t = ![0, 0] :=
  (by decide +kernel : ∀ t : Fin grid0.N, _)

theorem V_38_apply (r : Fin 16384) (k : Fin 5120) : (show FVec Ideal S16384x5120 .f32 from V m c main_v38) (ix2 r k)
    = rQ (hOf m c) (rE (rA (rM (hOf m c)))) (ix3 ⟨r.val / 8192, by omega⟩ ⟨r.val % 8192, by omega⟩ k) := by
  rw [V_38]
  pointwise

theorem out2 : (dats m 0 c).arrAt 2 (cfgs 0).N = fun i : S16384x5120.Idx => (show FVec Ideal S16384x5120 .f32 from V m c main_v38) (ix2 (i 0) (i 1)) := by
  refine (dats m 0 c).arrAt_eq_of_after_last 2 t0_0 (by decide +kernel) _ fun j => ?_
  blk_simp
  rw [after0_2]
  frame_out
  blk_point [iblk, V, idx t0_0]
theorem out3 : (dats m 0 c).arrAt 3 (cfgs 0).N = fun i : S16384x3840.Idx =>
    ∑ k, (show FVec Ideal S16384x5120 .f32 from V m c main_v38) (ix2 (i 0) k) * argW m c k (i 1) := by
  refine (dats m 0 c).arrAt_eq_of_after_last 3 t0_0 (by decide +kernel) _ fun j => ?_
  blk_simp
  rw [after0_3]
  frame_out
  blk_point [iblk, V, idx t0_0]
  rw [show (win0_1.blk t0_0).view.emb (ix2 k (j 1)) = ix2 k (j 1) from by blk_ext [idx t0_0], V_main_arg2]
  rfl
end

/-! ## The lines after the region -/

section
variable (d : FVec Ideal S16384x3840 .f32) (sc : FVec Ideal S2x8192x1 .f32) (ws : FVec Ideal S3840 .f32) (y : FVec Ideal S2x8192x3840 .f32)
  (t : FVec Ideal S2x8192x10x128 .f32) (pos : IVec S2x8192 32) (a : FVec Ideal S2x8192x64 .f32)

/-- The projections with both scales. -/
def rY : FVec Ideal S2x8192x3840 .f32 :=
  mulf (mulf (shapeCast S2x8192x3840 d shapeCasts_S16384x3840_S2x8192x3840) (broadcastInDim S2x8192x3840 ![0, 1, 2] bcast_S2x8192x1_S2x8192x3840_0_1_2 sc))
    (broadcastInDim S2x8192x3840 ![0, 1, 2] bcast_S1x1x3840_S2x8192x3840_0_1_2 (broadcastInDim S1x1x3840 ![2] bcast_S3840_S1x1x3840_2 ws))
/-- The three parts of the projections, as heads. -/
def rHd0 : FVec Ideal S2x8192x10x128 .f32 :=
  shapeCast S2x8192x10x128 (extractStridedSlice S2x8192x1280 ![0, 0, 0] y slices_S2x8192x3840_S2x8192x1280_0_0_0) shapeCasts_S2x8192x1280_S2x8192x10x128
def rHd1 : FVec Ideal S2x8192x10x128 .f32 :=
  shapeCast S2x8192x10x128 (extractStridedSlice S2x8192x1280 ![0, 0, 1280] y slices_S2x8192x3840_S2x8192x1280_0_0_1280) shapeCasts_S2x8192x1280_S2x8192x10x128
def rHd2 : FVec Ideal S2x8192x10x128 .f32 :=
  shapeCast S2x8192x10x128 (extractStridedSlice S2x8192x1280 ![0, 0, 2560] y slices_S2x8192x3840_S2x8192x1280_0_0_2560) shapeCasts_S2x8192x1280_S2x8192x10x128
/-- The angles. -/
def rAng : FVec Ideal S2x8192x64 .f32 :=
  mulf (broadcastInDim S2x8192x64 ![0, 1, 2] bcast_S2x8192x1_S2x8192x64_0_1_2 (broadcastInDim S2x8192x1 ![0, 1] bcast_S2x8192_S2x8192x1_0_1 (sitofp .f32 pos)))
    (broadcastInDim S2x8192x64 ![0, 1, 2] bcast_S1x1x64_S2x8192x64_0_1_2 (broadcastInDim S1x1x64 ![2] bcast_S64_S1x1x64_2
      (Host.powf (broadcastInDim S64 ![] bcast_S_S64 (constant S_ FTy.f32 0x461C4000#32))
        (Host.negf (Host.divf
          (addf (broadcastInDim S64 ![] bcast_S_S64 (constant S_ FTy.f32 0x00000000#32))
            (mulf (broadcastInDim S64 ![] bcast_S_S64 (constant S_ FTy.f32 0x40000000#32)) (sitofp FTy.f32 (iotaInDim S64 32 0))))
          (broadcastInDim S64 ![] bcast_S_S64 (constant S_ FTy.f32 0x43000000#32)))))))
/-- Its cosines and sines, for every head. -/
def rCos : FVec Ideal S2x8192x10x64 .f32 :=
  broadcastInDim S2x8192x10x64 ![0, 1, 2, 3] bcast_S2x8192x1x64_S2x8192x10x64_0_1_2_3 (broadcastInDim S2x8192x1x64 ![0, 1, 3] bcast_S2x8192x64_S2x8192x1x64_0_1_3 (Host.cos a))
def rSin : FVec Ideal S2x8192x10x64 .f32 :=
  broadcastInDim S2x8192x10x64 ![0, 1, 2, 3] bcast_S2x8192x1x64_S2x8192x10x64_0_1_2_3 (broadcastInDim S2x8192x1x64 ![0, 1, 3] bcast_S2x8192x64_S2x8192x1x64_0_1_3 (Host.sin a))
def rLo : FVec Ideal S2x8192x10x64 .f32 := extractStridedSlice S2x8192x10x64 ![0, 0, 0, 0] t slices_S2x8192x10x128_S2x8192x10x64_0_0_0_0
def rHi : FVec Ideal S2x8192x10x64 .f32 := extractStridedSlice S2x8192x10x64 ![0, 0, 0, 64] t slices_S2x8192x10x128_S2x8192x10x64_0_0_0_64
/-- The rotated heads. -/
def rRope : FVec Ideal S2x8192x10x128 .bf16 :=
  truncf .bf16 (concatenate S2x8192x10x128 3
    [⟨S2x8192x10x64, subf (mulf (rLo t) (rCos a)) (mulf (rHi t) (rSin a))⟩,
     ⟨S2x8192x10x64, addf (mulf (rHi t) (rCos a)) (mulf (rLo t) (rSin a))⟩]
    concatenates_S2x8192x10x64_S2x8192x10x64_S2x8192x10x128_d3) bitsLt_bf16_f32

theorem rY_apply (b : Fin 2) (s : Fin 8192) (j : Fin 3840) : rY d sc ws (ix3 b s j)
    = d (ix2 ⟨b.val * 8192 + s.val, by omega⟩ j) * sc (ix3 b s 0) * ws (ix1 j) := by
  pointwise [rY]
theorem rHd0_apply (b : Fin 2) (s : Fin 8192) (n : Fin 10) (k : Fin 128) : rHd0 y (ix4 b s n k) = y (ix3 b s ⟨1280 * (0 : Fin 3).val + 128 * n.val + k.val, by omega⟩) := by
  pointwise [rHd0]
  exact congrArg (fun x => y (ix3 b s x)) (Fin.ext (by simp; omega))
theorem rHd1_apply (b : Fin 2) (s : Fin 8192) (n : Fin 10) (k : Fin 128) : rHd1 y (ix4 b s n k) = y (ix3 b s ⟨1280 * (1 : Fin 3).val + 128 * n.val + k.val, by omega⟩) := by
  pointwise [rHd1]
  exact congrArg (fun x => y (ix3 b s x)) (Fin.ext (by simp; omega))
theorem rHd2_apply (b : Fin 2) (s : Fin 8192) (n : Fin 10) (k : Fin 128) : rHd2 y (ix4 b s n k) = y (ix3 b s ⟨1280 * (2 : Fin 3).val + 128 * n.val + k.val, by omega⟩) := by
  pointwise [rHd2]
  exact congrArg (fun x => y (ix3 b s x)) (Fin.ext (by simp; omega))
theorem rAng_apply (b : Fin 2) (s : Fin 8192) (j : Fin 64) : rAng pos (ix3 b s j) = Spec.ang (pos (ix2 b s)) j := by
  pointwise [rAng]
  rfl
theorem rCos_apply (b : Fin 2) (s : Fin 8192) (n : Fin 10) (j : Fin 64) : rCos a (ix4 b s n j) = Ideal.cos (a (ix3 b s j)) := by
  pointwise [rCos]
theorem rSin_apply (b : Fin 2) (s : Fin 8192) (n : Fin 10) (j : Fin 64) : rSin a (ix4 b s n j) = Ideal.sin (a (ix3 b s j)) := by
  pointwise [rSin]
theorem rLo_apply (b : Fin 2) (s : Fin 8192) (n : Fin 10) (j : Fin 64) : rLo t (ix4 b s n j) = t (ix4 b s n ⟨j.val, by omega⟩) := by
  pointwise [rLo]
theorem rHi_apply (b : Fin 2) (s : Fin 8192) (n : Fin 10) (j : Fin 64) : rHi t (ix4 b s n j) = t (ix4 b s n ⟨j.val + 64, by omega⟩) := by
  pointwise [rHi]
  exact congrArg (fun x => t (ix4 b s n x)) (Fin.ext (by simp; omega))
theorem rRope_apply (b : Fin 2) (s : Fin 8192) (n : Fin 10) (k : Fin 128) : rRope t a (ix4 b s n k)
    = Spec.rope (fun k => t (ix4 b s n k)) (fun j => a (ix3 b s j)) k := by
  pointwise [rRope, rLo_apply, rHi_apply, rCos_apply, rSin_apply]
  unfold Spec.rope
  split
  · rfl
  · simp only [show k.val - 64 + 64 = k.val by omega]
end
section
variable (σ : Valuation τ sig (Elt Ideal))
def yOf : FVec Ideal S2x8192x3840 .f32 :=
  rY (show FVec Ideal S16384x3840 .f32 from σ (Proc.devRef .tc main_v39_1)) (show FVec Ideal S2x8192x1 .f32 from σ (Proc.devRef .tc main_v32))
    (show FVec Ideal S3840 .f32 from σ (Proc.devRef .tc main_arg3))
def aOf : FVec Ideal S2x8192x64 .f32 := rAng (show IVec S2x8192 32 from σ (Proc.devRef .tc main_arg4))
set_option maxHeartbeats 3200000 in
theorem line_86 : StableHlo.after (List.flatten [hostOps1]) σ (Proc.devRef .tc main_v86) = rRope (rHd0 (yOf σ)) (aOf σ) := by
  simp only [hostOps1, List.flatten_cons, List.flatten_nil, List.append_nil]
  entry_read
  rfl
set_option maxHeartbeats 3200000 in
theorem line_100 : StableHlo.after (List.flatten [hostOps1]) σ (Proc.devRef .tc main_v100) = rRope (rHd1 (yOf σ)) (aOf σ) := by
  simp only [hostOps1, List.flatten_cons, List.flatten_nil, List.append_nil]
  entry_read
  rfl
set_option maxHeartbeats 3200000 in
theorem line_101 : StableHlo.after (List.flatten [hostOps1]) σ (Proc.devRef .tc main_v101) = truncf .bf16 (rHd2 (yOf σ)) bitsLt_bf16_f32 := by
  simp only [hostOps1, List.flatten_cons, List.flatten_nil, List.append_nil]
  entry_read
  rfl
set_option maxHeartbeats 3200000 in
theorem line_40 : StableHlo.after (List.flatten [hostOps1]) σ (Proc.devRef .tc main_v40)
    = shapeCast S2x8192x5120 (show FVec Ideal S16384x5120 .fp8e4m3 from σ (Proc.devRef .tc main_v39_0)) shapeCasts_S16384x5120_S2x8192x5120 := by
  simp only [hostOps1, List.flatten_cons, List.flatten_nil, List.append_nil]
  entry_read
  rfl
theorem line_32 : StableHlo.after (List.flatten [hostOps1]) σ (Proc.devRef .tc main_v32) = σ (Proc.devRef .tc main_v32) :=
  StableHlo.after_of_forall_not_mem (b := Proc.devRef .tc main_v32) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
end

/-! ## The results -/

section
variable (c : Dev nD) (b : Fin 2) (s : Fin 8192)

theorem hOf_apply (k : Fin 5120) : hOf m c (ix3 b s k) = Spec.hrow (argX m c b s) (argG m c) k := rH_apply _ _ b s k
theorem rM_hOf : rM (hOf m c) (ix2 b s) = Spec.amx (argX m c b s) (argG m c) := by
  rw [rM_apply]
  unfold Spec.amx
  simp only [hOf_apply]
theorem rE_hOf : rE (rA (rM (hOf m c))) (ix3 b s 0) = Spec.expo (Spec.amx (argX m c b s) (argG m c)) :=
  rE_apply _ b s _ (by rw [rA_apply, rM_hOf])
theorem scale_apply : (show FVec Ideal S2x8192x1 .f32 from V m c main_v32) (ix3 b s 0) = Spec.scaleT (argX m c) (argG m c) b s := by
  rw [V_32]
  refine (rSc_apply _ b s).trans ?_
  rw [rE_hOf]
  rfl
theorem code_apply (k : Fin 5120) : rQ (hOf m c) (rE (rA (rM (hOf m c)))) (ix3 b s k) = Spec.codeT (argX m c) (argG m c) b s k := by
  rw [rQ_apply, hOf_apply, rE_hOf]
  rfl
theorem V_38_row (k : Fin 5120) : (show FVec Ideal S16384x5120 .f32 from V m c main_v38) (ix2 ⟨b.val * 8192 + s.val, by omega⟩ k)
    = Spec.codeT (argX m c) (argG m c) b s k := by
  refine (V_38_apply m c _ k).trans ((congrArg₂ (fun b s => rQ (hOf m c) (rE (rA (rM (hOf m c)))) (ix3 b s k)) ?_ ?_).trans (code_apply m c b s k))
  · exact Fin.ext (show (b.val * 8192 + s.val) / 8192 = b.val by omega)
  · exact Fin.ext (show (b.val * 8192 + s.val) % 8192 = s.val by omega)

/-- The contents after the region. -/
abbrev σ1 : Valuation τ sig (Elt Ideal) := Pipeline.withArrays (cfgs 0).spec c (V0 m c) (fun w => (dats m 0 c).arrAt w (cfgs 0).N)
theorem σ1_v39_0 : σ1 m c (Proc.devRef .tc main_v39_0) = (dats m 0 c).arrAt 2 (cfgs 0).N :=
  Pipeline.withArrays_arr spec0 (by decide) c (V0 m c) _ 2
theorem σ1_v39_1 : σ1 m c (Proc.devRef .tc main_v39_1) = (dats m 0 c).arrAt 3 (cfgs 0).N :=
  Pipeline.withArrays_arr spec0 (by decide) c (V0 m c) _ 3
theorem σ1_v32 : σ1 m c (Proc.devRef .tc main_v32) = V m c main_v32 :=
  Pipeline.withArrays_of_ne _ c (V0 m c) _ main_v32 (by exact (by decide : ∀ w, Pipeline.arrRef spec0 w ≠ main_v32))
theorem σ1_arg3 : σ1 m c (Proc.devRef .tc main_arg3) = m ((c : Thread nD τ).loc main_arg3) :=
  (Pipeline.withArrays_of_ne _ c (V0 m c) _ main_arg3 (by exact (by decide : ∀ w, Pipeline.arrRef spec0 w ≠ main_arg3))).trans (V_main_arg3 m c)
theorem σ1_arg4 : σ1 m c (Proc.devRef .tc main_arg4) = m ((c : Thread nD τ).loc main_arg4) :=
  (Pipeline.withArrays_of_ne _ c (V0 m c) _ main_arg4 (by exact (by decide : ∀ w, Pipeline.arrRef spec0 w ≠ main_arg4))).trans (V_main_arg4 m c)

theorem yOf_apply (j : Fin 3840) : yOf (σ1 m c) (ix3 b s j) = Spec.proj (argX m c b s) (argG m c) (fun k => argW m c k j) (argS m c j) := by
  refine (rY_apply _ _ _ b s j).trans ?_
  rw [σ1_v39_1, σ1_v32, σ1_arg3, out3]
  unfold Spec.proj
  refine congrArg₂ (· * ·) (congrArg₂ (· * ·) (Finset.sum_congr rfl fun k _ => ?_) (scale_apply m c b s)) rfl
  exact congrArg (· * argW m c k j) (V_38_row m c b s k)
theorem aOf_apply (j : Fin 64) : aOf (σ1 m c) (ix3 b s j) = argA m c b s j := by
  refine (rAng_apply _ b s j).trans ?_
  rw [σ1_arg4]
  rfl

theorem res_86 : Pipeline.afterTail₀ cfgs (dats m) 0 (V0 m) [hostOps1] c main_v86
    = fun i : S2x8192x10x128.Idx => Spec.rot (argX m c) (argG m c) (argW m c) (argS m c) (argA m c) 0 (i 0) (i 1) (i 2) (i 3) := by
  refine (line_86 (σ1 m c)).trans (funext fun i => ?_)
  obtain ⟨b, s, n, k, rfl⟩ : ∃ b s n k, i = ix4 b s n k := ⟨_, _, _, _, eq_ix4 i⟩
  refine (rRope_apply _ _ b s n k).trans ?_
  simp only [rHd0_apply, yOf_apply, aOf_apply]
  rfl
theorem res_100 : Pipeline.afterTail₀ cfgs (dats m) 0 (V0 m) [hostOps1] c main_v100
    = fun i : S2x8192x10x128.Idx => Spec.rot (argX m c) (argG m c) (argW m c) (argS m c) (argA m c) 1 (i 0) (i 1) (i 2) (i 3) := by
  refine (line_100 (σ1 m c)).trans (funext fun i => ?_)
  obtain ⟨b, s, n, k, rfl⟩ : ∃ b s n k, i = ix4 b s n k := ⟨_, _, _, _, eq_ix4 i⟩
  refine (rRope_apply _ _ b s n k).trans ?_
  simp only [rHd1_apply, yOf_apply, aOf_apply]
  rfl
theorem res_101 : Pipeline.afterTail₀ cfgs (dats m) 0 (V0 m) [hostOps1] c main_v101
    = fun i : S2x8192x10x128.Idx => Spec.head (argX m c) (argG m c) (argW m c) (argS m c) 2 (i 0) (i 1) (i 2) (i 3) := by
  refine (line_101 (σ1 m c)).trans (funext fun i => ?_)
  obtain ⟨b, s, n, k, rfl⟩ : ∃ b s n k, i = ix4 b s n k := ⟨_, _, _, _, eq_ix4 i⟩
  exact (rHd2_apply _ b s n k).trans (yOf_apply m c b s _)
theorem res_40 : Pipeline.afterTail₀ cfgs (dats m) 0 (V0 m) [hostOps1] c main_v40
    = fun i : S2x8192x5120.Idx => Spec.codeT (argX m c) (argG m c) (i 0) (i 1) (i 2) := by
  refine (line_40 (σ1 m c)).trans (funext fun i => ?_)
  obtain ⟨b, s, k, rfl⟩ : ∃ b s k, i = ix3 b s k := ⟨_, _, _, eq_ix3 i⟩
  rw [σ1_v39_0, out2]
  pointwise
  exact V_38_row m c b s k
theorem res_32 : Pipeline.afterTail₀ cfgs (dats m) 0 (V0 m) [hostOps1] c main_v32
    = fun i : S2x8192x1.Idx => Spec.scaleT (argX m c) (argG m c) (i 0) (i 1) := by
  refine (line_32 (σ1 m c)).trans ((σ1_v32 m c).trans (funext fun i => ?_))
  obtain ⟨b, s, z, rfl⟩ : ∃ b s z, i = ix3 b s z := ⟨_, _, _, eq_ix3 i⟩
  obtain rfl : z = 0 := Fin.ext (by omega)
  exact scale_apply m c b s
end

end Cert.ReferenceIdeal.Gen

end
-- ==== Proof.Algebraic.lean ====
/- The two programs, from the same arguments, run to the same results: each result is one function of `Spec` of the arguments. -/
module

public import proofs.«01_k».proof.Defs
public import proofs.«01_k».proof.Proof.KernelIdeal.Results
public import proofs.«01_k».proof.Proof.Reference

@[expose] public section

set_option maxRecDepth 16384

noncomputable section

namespace Cert.KernelIdeal.Gen.Named

open Idealize.ShloMosaic Idealize.ShloMosaic.TcCoe Idealize.SL.Sem Cert

variable (m : (ℓ : Loc nD τ sig) → Buf (Elt Ideal) ℓ) (ρ : Dev nD → PrngReg)

/-- The program's run: its five results and its arguments at the end. -/
theorem runs : θ_run (defs (F := Ideal)) (onTc (τ := τ) (main (F := Ideal))) ⟨m, fun _ => 0, ρ⟩ (fun r => ∀ c : Dev nD,
      r.2.mem ((c.tc : Thread nD τ).loc main_v17) = (fun i : S2x8192x10x128.Idx => Spec.rot (argX m c) (argG m c) (argW m c) (argS m c) (argA m c) 0 (i 0) (i 1) (i 2) (i 3))
      ∧ r.2.mem ((c.tc : Thread nD τ).loc main_v18) = (fun i : S2x8192x10x128.Idx => Spec.rot (argX m c) (argG m c) (argW m c) (argS m c) (argA m c) 1 (i 0) (i 1) (i 2) (i 3))
      ∧ r.2.mem ((c.tc : Thread nD τ).loc main_v19) = (fun i : S2x8192x10x128.Idx => Spec.head (argX m c) (argG m c) (argW m c) (argS m c) 2 (i 0) (i 1) (i 2) (i 3))
      ∧ r.2.mem ((c.tc : Thread nD τ).loc main_v20) = (fun i : S2x8192x5120.Idx => Spec.codeT (argX m c) (argG m c) (i 0) (i 1) (i 2))
      ∧ r.2.mem ((c.tc : Thread nD τ).loc main_v21) = (fun i : S2x8192x1.Idx => Spec.scaleT (argX m c) (argG m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun _ h c => ⟨
    ((h c).2 main_v17 (Pipeline.mem_restRefs_of main_v17 (by decide) (by decide))).trans (res_17 m c),
    ((h c).2 main_v18 (Pipeline.mem_restRefs_of main_v18 (by decide) (by decide))).trans (res_18 m c),
    ((h c).2 main_v19 (Pipeline.mem_restRefs_of main_v19 (by decide) (by decide))).trans (res_19 m c),
    ((h c).2 main_v20 (Pipeline.mem_restRefs_of main_v20 (by decide) (by decide))).trans (res_20 m c),
    ((h c).2 main_v21 (Pipeline.mem_restRefs_of main_v21 (by decide) (by decide))).trans (res_21 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).1 2).trans (((dats m 0 c).arrAt_in 2 rfl _).trans ((A_eq m c 2).trans (V_main_arg2 m c))),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c)⟩) (run_main m ρ)

end Cert.KernelIdeal.Gen.Named

namespace Cert.ReferenceIdeal.Gen

open Idealize.ShloMosaic Idealize.ShloMosaic.TcCoe Idealize.SL.Sem Cert

variable (m : (ℓ : Loc nD τ sig) → Buf (Elt Ideal) ℓ) (ρ : Dev nD → PrngReg)

/-- The reference's run: its five results and its arguments at the end. -/
theorem runs : θ_run (defs (F := Ideal)) (onTc (τ := τ) (main (F := Ideal))) ⟨m, fun _ => 0, ρ⟩ (fun r => ∀ c : Dev nD,
      r.2.mem ((c.tc : Thread nD τ).loc main_v86) = (fun i : S2x8192x10x128.Idx => Spec.rot (argX m c) (argG m c) (argW m c) (argS m c) (argA m c) 0 (i 0) (i 1) (i 2) (i 3))
      ∧ r.2.mem ((c.tc : Thread nD τ).loc main_v100) = (fun i : S2x8192x10x128.Idx => Spec.rot (argX m c) (argG m c) (argW m c) (argS m c) (argA m c) 1 (i 0) (i 1) (i 2) (i 3))
      ∧ r.2.mem ((c.tc : Thread nD τ).loc main_v101) = (fun i : S2x8192x10x128.Idx => Spec.head (argX m c) (argG m c) (argW m c) (argS m c) 2 (i 0) (i 1) (i 2) (i 3))
      ∧ r.2.mem ((c.tc : Thread nD τ).loc main_v40) = (fun i : S2x8192x5120.Idx => Spec.codeT (argX m c) (argG m c) (i 0) (i 1) (i 2))
      ∧ r.2.mem ((c.tc : Thread nD τ).loc main_v32) = (fun i : S2x8192x1.Idx => Spec.scaleT (argX m c) (argG m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run (defs (F := Ideal)) _ _).mono (fun _ h c => ⟨
    ((h c).2 main_v86 (Pipeline.mem_restRefs_of main_v86 (by decide) (by decide))).trans (res_86 m c),
    ((h c).2 main_v100 (Pipeline.mem_restRefs_of main_v100 (by decide) (by decide))).trans (res_100 m c),
    ((h c).2 main_v101 (Pipeline.mem_restRefs_of main_v101 (by decide) (by decide))).trans (res_101 m c),
    ((h c).2 main_v40 (Pipeline.mem_restRefs_of main_v40 (by decide) (by decide))).trans (res_40 m c),
    ((h c).2 main_v32 (Pipeline.mem_restRefs_of main_v32 (by decide) (by decide))).trans (res_32 m c),
    ((h c).2 main_arg0 (Pipeline.mem_restRefs_of main_arg0 (by decide) (by decide))).trans (W_main_arg0 m (dats m) c),
    ((h c).2 main_arg1 (Pipeline.mem_restRefs_of main_arg1 (by decide) (by decide))).trans (W_main_arg1 m (dats m) c),
    ((h c).1 1).trans (((dats m 0 c).arrAt_in 1 rfl _).trans ((A_eq m c 1).trans (V_main_arg2 m c))),
    ((h c).2 main_arg3 (Pipeline.mem_restRefs_of main_arg3 (by decide) (by decide))).trans (W_main_arg3 m (dats m) c),
    ((h c).2 main_arg4 (Pipeline.mem_restRefs_of main_arg4 (by decide) (by decide))).trans (W_main_arg4 m (dats m) c)⟩) (run_main m ρ)

end Cert.ReferenceIdeal.Gen

namespace Cert.Proof

open Idealize.ShloMosaic Idealize.ShloMosaic.TcCoe Idealize.SL.Sem Cert

/-- The program and the reference end with equal results. -/
theorem algebraic : Cert.algebraic_KernelIdeal_ReferenceIdeal
    (hKernelIdeal := Cert.KernelIdeal.Gen.facts) (hReferenceIdeal := Cert.ReferenceIdeal.Gen.facts) := by
  intro m g m' g' _ hm
  have hX : ∀ c, Cert.ReferenceIdeal.Gen.argX m' c = Cert.KernelIdeal.Gen.Named.argX m c := fun c => funext fun b => funext fun s => funext fun k => congrFun (hm c).1 (ix3 b s k)
  have hG : ∀ c, Cert.ReferenceIdeal.Gen.argG m' c = Cert.KernelIdeal.Gen.Named.argG m c := fun c => funext fun k => congrFun (hm c).2.1 (ix1 k)
  have hW : ∀ c, Cert.ReferenceIdeal.Gen.argW m' c = Cert.KernelIdeal.Gen.Named.argW m c := fun c => funext fun k => funext fun j => congrFun (hm c).2.2.1 (ix2 k j)
  have hS : ∀ c, Cert.ReferenceIdeal.Gen.argS m' c = Cert.KernelIdeal.Gen.Named.argS m c := fun c => funext fun j => congrFun (hm c).2.2.2.1 (ix1 j)
  have hA : ∀ c, Cert.ReferenceIdeal.Gen.argA m' c = Cert.KernelIdeal.Gen.Named.argA m c := fun c => funext fun b => funext fun s => funext fun j =>
    congrArg (fun p => Spec.ang p j) (congrFun (hm c).2.2.2.2 (ix2 b s))
  refine ⟨_, _, _, _, _, Cert.KernelIdeal.Gen.Named.runs m g, ?_⟩
  have h := Cert.ReferenceIdeal.Gen.runs m' g'
  simp only [hX, hG, hW, hS, hA] at h
  exact h

end Cert.Proof

end
-- ==== Proof.lean ====
/- The proof of the claim: each program runs to its end, leaves its arguments as they were and its counters at zero; and the results
of the program, at exact arithmetic, are those of the reference. -/
module

public import proofs.«01_k».proof.Defs
public import proofs.«01_k».proof.Proof.Gen.Kernel
public import proofs.«01_k».proof.Proof.Kernel.Frame
public import proofs.«01_k».proof.Proof.Gen.KernelIdeal
public import proofs.«01_k».proof.Proof.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m ρ _ => Cert.Kernel.Gen.frame m ρ,
  fun m ρ _ => Cert.KernelIdeal.Gen.frame m ρ,
  fun m ρ _ => Cert.ReferenceIdeal.Gen.frame m ρ,
  IdealRules.named_const.statement Cert.KernelIdeal.κ "inv_n" .f32 0x394CCCCD#32 ((1 / 5120 : ℝ) : EReal) rfl,
  algebraic⟩

end Cert.Proof

end
